-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_greatest_scores_in_range [hPre_greatest_scores_in_range : Cert.Pre_greatest_scores_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_greatest_scores_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_greatest_scores_in_range [hPre_greatest_scores_in_range : Cert.Pre_greatest_scores_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_greatest_scores_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_greatest_scores_in_range [hKernelIdeal : Cert.KernelIdeal.Facts] [hPre_greatest_scores_in_range : Cert.Pre_greatest_scores_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_greatest_scores_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_greatest_scores_in_range [hReferenceIdeal : Cert.ReferenceIdeal.Facts] [hPre_greatest_scores_in_range : Cert.Pre_greatest_scores_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_greatest_scores_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e_inv_sqrt_d" .f32 0x3E0293EE#32 (((Real.sqrt 128)⁻¹ * (Real.log 2)⁻¹ : ℝ) : EReal)

def algebraic_KernelIdeal_ReferenceIdeal_pre_greatest_scores_in_range [hKernelIdeal : Cert.KernelIdeal.Facts] [hReferenceIdeal : Cert.ReferenceIdeal.Facts] [hPre_greatest_scores_in_range : Cert.Pre_greatest_scores_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_greatest_scores_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_greatest_scores_in_range : Cert.Pre_greatest_scores_in_range.Facts),
    quiescent_Kernel (hKernel := hKernel)
    ∧ quiescent_KernelIdeal (hKernelIdeal := hKernelIdeal)
    ∧ quiescent_KernelIdeal_pre_greatest_scores_in_range (hKernelIdeal := hKernelIdeal) (hPre_greatest_scores_in_range := hPre_greatest_scores_in_range)
    ∧ quiescent_ReferenceIdeal (hReferenceIdeal := hReferenceIdeal)
    ∧ quiescent_ReferenceIdeal_pre_greatest_scores_in_range (hReferenceIdeal := hReferenceIdeal) (hPre_greatest_scores_in_range := hPre_greatest_scores_in_range)
    ∧ preserves_Kernel_KernelIdeal
    ∧ algebraic_KernelIdeal_ReferenceIdeal_pre_greatest_scores_in_range (hKernelIdeal := hKernelIdeal) (hReferenceIdeal := hReferenceIdeal) (hPre_greatest_scores_in_range := hPre_greatest_scores_in_range)
-- ==== Pre_greatest_scores_in_range.lean ====
abbrev S1x2048x2048 : Shape := ⟨3, ![1, 2048, 2048]⟩
abbrev S2048x2048 : Shape := ⟨2, ![2048, 2048]⟩
abbrev S1x16x128x16x128 : Shape := ⟨5, ![1, 16, 128, 16, 128]⟩
abbrev S1x16x16x128x128 : Shape := ⟨5, ![1, 16, 16, 128, 128]⟩
abbrev S_ : Shape := ⟨0, ![]⟩
abbrev S1x16x16x128 : Shape := ⟨4, ![1, 16, 16, 128]⟩

class Facts : Prop where
  transposes_S2048x2048_S2048x2048_1_0 : S2048x2048.Transposes [1, 0] S2048x2048
  shapeCasts_S1x2048x2048_S1x16x128x16x128 : S1x2048x2048.ShapeCasts S1x16x128x16x128
  reducesTo_S1x16x16x128x128_S1x16x16x128_d4 : S1x16x16x128x128.ReducesTo [4] S1x16x16x128
  h_S_ : 0 < S_.numel
  bcast_S_S1x16x16x128 : S_.BroadcastsInDim S1x16x16x128 (![] : Fin 0 → Fin S1x16x16x128.rank)
  dot_S1x2048x2048_S2048x2048_S1x2048x2048_2_0_01_1_n_n_wf : DotDims.WF S1x2048x2048 S2048x2048 S1x2048x2048 [2] [0] [0, 1] [1] [] []
  dot_S1x16x128x16x128_S1x16x128x16x128_S1x16x16x128x128_4_4_2_2_013_013_wf : DotDims.WF S1x16x128x16x128 S1x16x128x16x128 S1x16x16x128x128 [4] [4] [2] [2] [0, 1, 3] [0, 1, 3]

variable [Facts]

def dot_S1x2048x2048_S2048x2048_S1x2048x2048_2_0_01_1_n_n : DotDims S1x2048x2048 S2048x2048 S1x2048x2048 where
  lhsContracting := [2]
  rhsContracting := [0]
  lhsNonContracting := [0, 1]
  rhsNonContracting := [1]
  lhsBatch := []
  rhsBatch := []
  wf := dot_S1x2048x2048_S2048x2048_S1x2048x2048_2_0_01_1_n_n_wf
def dot_S1x16x128x16x128_S1x16x128x16x128_S1x16x16x128x128_4_4_2_2_013_013 : DotDims S1x16x128x16x128 S1x16x128x16x128 S1x16x16x128x128 where
  lhsContracting := [4]
  rhsContracting := [4]
  lhsNonContracting := [2]
  rhsNonContracting := [2]
  lhsBatch := [0, 1, 3]
  rhsBatch := [0, 1, 3]
  wf := dot_S1x16x128x16x128_S1x16x128x16x128_S1x16x16x128x128_4_4_2_2_013_013_wf
def fn {F : FTy → Type} [FloatOps F] (main_arg0 : FVec F S1x2048x2048 .f32) (main_arg1 : FVec F S2048x2048 .f32) (main_arg2 : FVec F S2048x2048 .f32) (main_arg3 : FVec F S2048x2048 .f32) (main_arg4 : FVec F S2048x2048 .f32) : IVec S1x16x16x128 1 :=
  let main_v0 : FVec F S2048x2048 .f32 := (transpose S2048x2048 [1, 0] · transposes_S2048x2048_S2048x2048_1_0) main_arg1
  let main_v1 : FVec F S1x2048x2048 .f32 := (fun l r => Host.dotGeneral dot_S1x2048x2048_S2048x2048_S1x2048x2048_2_0_01_1_n_n none l r) main_arg0 main_v0
  let main_v2 : FVec F S1x16x128x16x128 .f32 := shapeCast S1x16x128x16x128 main_v1 shapeCasts_S1x2048x2048_S1x16x128x16x128
  let main_v3 : FVec F S2048x2048 .f32 := (transpose S2048x2048 [1, 0] · transposes_S2048x2048_S2048x2048_1_0) main_arg2
  let main_v4 : FVec F S1x2048x2048 .f32 := (fun l r => Host.dotGeneral dot_S1x2048x2048_S2048x2048_S1x2048x2048_2_0_01_1_n_n none l r) main_arg0 main_v3
  let main_v5 : FVec F S1x16x128x16x128 .f32 := shapeCast S1x16x128x16x128 main_v4 shapeCasts_S1x2048x2048_S1x16x128x16x128
  let main_v6 : FVec F S1x16x16x128x128 .f32 := (fun l r => Host.dotGeneral dot_S1x16x128x16x128_S1x16x128x16x128_S1x16x16x128x128_4_4_2_2_013_013 none l r) main_v2 main_v5
  let main_cst : FVec F S_ .f32 := constant S_ .f32 0xFF800000#32
  let main_v7 : FVec F S1x16x16x128 .f32 := (fun x v => Host.reduce FloatOps.maximumf x v reducesTo_S1x16x16x128x128_S1x16x16x128_d4 h_S_) main_v6 main_cst
  let main_cst_0 : FVec F S_ .f32 := constant S_ .f32 0x44288000#32
  let main_v8 : FVec F S1x16x16x128 .f32 := broadcastInDim S1x16x16x128 ![] bcast_S_S1x16x16x128 main_cst_0
  let main_v9 : IVec S1x16x16x128 1 := cmpf .ole main_v7 main_v8
  let main_cst_1 : FVec F S_ .f32 := constant S_ .f32 0xFF800000#32
  let main_v10 : FVec F S1x16x16x128 .f32 := broadcastInDim S1x16x16x128 ![] bcast_S_S1x16x16x128 main_cst_1
  let main_v11 : IVec S1x16x16x128 1 := cmpf .ogt main_v7 main_v10
  let main_v12 : IVec S1x16x16x128 1 := andi main_v9 main_v11
  main_v12
-- ==== Kernel.lean ====
abbrev S1x2048x2048 : Shape := ⟨3, ![1, 2048, 2048]⟩
abbrev S2048x2048 : Shape := ⟨2, ![2048, 2048]⟩
abbrev S256x2048 : Shape := ⟨2, ![256, 2048]⟩
abbrev S2048x256 : Shape := ⟨2, ![2048, 256]⟩
abbrev S1024x2048 : Shape := ⟨2, ![1024, 2048]⟩
abbrev S1024x256 : Shape := ⟨2, ![1024, 256]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 8
  | .vmem => 15
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S1x2048x2048, .f32⟩
  | .local _ .vmem, ⟨0, _⟩ => ⟨S2048x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S2048x256, .f32⟩
  | .local _ .vmem, ⟨10, _⟩ => ⟨S2048x256, .f32⟩
  | .local _ .vmem, ⟨11, _⟩ => ⟨S2048x2048, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c8_i32 : BitVec 32 := 8#32
  let v4 : BitVec 1 := Scalar.cmpi .slt arg0 c8_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off1 (i : grid0.Coords) (c0_i32_75 : BitVec 32) : Fin 2 → Nat :=
  let c0_76 : Index := 0#32
  let arg0 : BitVec 32 := BitVec.ofNat 32 (i 0).val
  let c1_i32_74 : BitVec 32 := 1#32
  let v206 : BitVec 32 := Scalar.subi arg0 c1_i32_74
  let c256_i32 : BitVec 32 := 256#32
  let v207 : BitVec 32 := Scalar.muli v206 c256_i32
  let v208 : BitVec 32 := Scalar.addi v207 c0_i32_75
  let v209 : Index := Scalar.indexCast v208
  ![0, v209.toNat]
def k0_off2 (i : grid0.Coords) (c0_i32_89 : BitVec 32) : Fin 2 → Nat :=
  let c256 : Index := 256#32
  let arg0 : BitVec 32 := BitVec.ofNat 32 (i 0).val
  let c1_i32_87 : BitVec 32 := 1#32
  let v240 : BitVec 32 := Scalar.subi arg0 c1_i32_87
  let c256_i32_88 : BitVec 32 := 256#32
  let v241 : BitVec 32 := Scalar.muli v240 c256_i32_88
  let v242 : BitVec 32 := Scalar.addi v241 c0_i32_89
  let v243 : Index := Scalar.indexCast v242
  ![256, v243.toNat]
def k0_off3 (i : grid0.Coords) (c0_i32_102 : BitVec 32) : Fin 2 → Nat :=
  let c512 : Index := 512#32
  let arg0 : BitVec 32 := BitVec.ofNat 32 (i 0).val
  let c1_i32_100 : BitVec 32 := 1#32
  let v274 : BitVec 32 := Scalar.subi arg0 c1_i32_100
  let c256_i32_101 : BitVec 32 := 256#32
  let v275 : BitVec 32 := Scalar.muli v274 c256_i32_101
  let v276 : BitVec 32 := Scalar.addi v275 c0_i32_102
  let v277 : Index := Scalar.indexCast v276
  ![512, v277.toNat]
def k0_off4 (i : grid0.Coords) (c0_i32_115 : BitVec 32) : Fin 2 → Nat :=
  let c768 : Index := 768#32
  let arg0 : BitVec 32 := BitVec.ofNat 32 (i 0).val
  let c1_i32_113 : BitVec 32 := 1#32
  let v308 : BitVec 32 := Scalar.subi arg0 c1_i32_113
  let c256_i32_114 : BitVec 32 := 256#32
  let v309 : BitVec 32 := Scalar.muli v308 c256_i32_114
  let v310 : BitVec 32 := Scalar.addi v309 c0_i32_115
  let v311 : Index := Scalar.indexCast v310
  ![768, v311.toNat]
def k0_off5 (i : grid0.Coords) (c0_i32_128 : BitVec 32) : Fin 2 → Nat :=
  let c1024 : Index := 1024#32
  let arg0 : BitVec 32 := BitVec.ofNat 32 (i 0).val
  let c1_i32_126 : BitVec 32 := 1#32
  let v342 : BitVec 32 := Scalar.subi arg0 c1_i32_126
  let c256_i32_127 : BitVec 32 := 256#32
  let v343 : BitVec 32 := Scalar.muli v342 c256_i32_127
  let v344 : BitVec 32 := Scalar.addi v343 c0_i32_128
  let v345 : Index := Scalar.indexCast v344
  ![1024, v345.toNat]
def k0_off6 (i : grid0.Coords) (c0_i32_141 : BitVec 32) : Fin 2 → Nat :=
  let c1280 : Index := 1280#32
  let arg0 : BitVec 32 := BitVec.ofNat 32 (i 0).val
  let c1_i32_139 : BitVec 32 := 1#32
  let v376 : BitVec 32 := Scalar.subi arg0 c1_i32_139
  let c256_i32_140 : BitVec 32 := 256#32
  let v377 : BitVec 32 := Scalar.muli v376 c256_i32_140
  let v378 : BitVec 32 := Scalar.addi v377 c0_i32_141
  let v379 : Index := Scalar.indexCast v378
  ![1280, v379.toNat]
def k0_off7 (i : grid0.Coords) (c0_i32_154 : BitVec 32) : Fin 2 → Nat :=
  let c1536 : Index := 1536#32
  let arg0 : BitVec 32 := BitVec.ofNat 32 (i 0).val
  let c1_i32_152 : BitVec 32 := 1#32
  let v410 : BitVec 32 := Scalar.subi arg0 c1_i32_152
  let c256_i32_153 : BitVec 32 := 256#32
  let v411 : BitVec 32 := Scalar.muli v410 c256_i32_153
  let v412 : BitVec 32 := Scalar.addi v411 c0_i32_154
  let v413 : Index := Scalar.indexCast v412
  ![1536, v413.toNat]
def k0_off8 (i : grid0.Coords) (c0_i32_167 : BitVec 32) : Fin 2 → Nat :=
  let c1792 : Index := 1792#32
  let arg0 : BitVec 32 := BitVec.ofNat 32 (i 0).val
  let c1_i32_165 : BitVec 32 := 1#32
  let v444 : BitVec 32 := Scalar.subi arg0 c1_i32_165
  let c256_i32_166 : BitVec 32 := 256#32
  let v445 : BitVec 32 := Scalar.muli v444 c256_i32_166
  let v446 : BitVec 32 := Scalar.addi v445 c0_i32_167
  let v447 : Index := Scalar.indexCast v446
  ![1792, v447.toNat]
def k0_cond3 (i : grid0.Coords) : BitVec 1 :=
  let arg0 : BitVec 32 := BitVec.ofNat 32 (i 0).val
  let c8_i32_2 : BitVec 32 := 8#32
  let v8 : BitVec 1 := Scalar.cmpi .eq arg0 c8_i32_2
  let v9 : BitVec 32 := Scalar.extui v8
  let c0_i32_3 : BitVec 32 := 0#32
  let v10 : BitVec 1 := Scalar.cmpi .ne v9 c0_i32_3
  v10

def k0_off9 (i : grid0.Coords) (c0_i32_75 : BitVec 32) : Fin 2 → Nat :=
  let c0_76 : Index := 0#32
  let arg0 : BitVec 32 := BitVec.ofNat 32 (i 0).val
  let c1_i32_74 : BitVec 32 := 1#32
  let v206 : BitVec 32 := Scalar.subi arg0 c1_i32_74
  let c256_i32 : BitVec 32 := 256#32
  let v207 : BitVec 32 := Scalar.muli v206 c256_i32
  let v208 : BitVec 32 := Scalar.addi v207 c0_i32_75
  let v209 : Index := Scalar.indexCast v208
  ![0, v209.toNat]
def k0_off10 (i : grid0.Coords) (c0_i32_89 : BitVec 32) : Fin 2 → Nat :=
  let c256 : Index := 256#32
  let arg0 : BitVec 32 := BitVec.ofNat 32 (i 0).val
  let c1_i32_87 : BitVec 32 := 1#32
  let v240 : BitVec 32 := Scalar.subi arg0 c1_i32_87
  let c256_i32_88 : BitVec 32 := 256#32
  let v241 : BitVec 32 := Scalar.muli v240 c256_i32_88
  let v242 : BitVec 32 := Scalar.addi v241 c0_i32_89
  let v243 : Index := Scalar.indexCast v242
  ![256, v243.toNat]
def k0_off11 (i : grid0.Coords) (c0_i32_102 : BitVec 32) : Fin 2 → Nat :=
  let c512 : Index := 512#32
  let arg0 : BitVec 32 := BitVec.ofNat 32 (i 0).val
  let c1_i32_100 : BitVec 32 := 1#32
  let v274 : BitVec 32 := Scalar.subi arg0 c1_i32_100
  let c256_i32_101 : BitVec 32 := 256#32
  let v275 : BitVec 32 := Scalar.muli v274 c256_i32_101
  let v276 : BitVec 32 := Scalar.addi v275 c0_i32_102
  let v277 : Index := Scalar.indexCast v276
  ![512, v277.toNat]
def k0_off12 (i : grid0.Coords) (c0_i32_115 : BitVec 32) : Fin 2 → Nat :=
  let c768 : Index := 768#32
  let arg0 : BitVec 32 := BitVec.ofNat 32 (i 0).val
  let c1_i32_113 : BitVec 32 := 1#32
  let v308 : BitVec 32 := Scalar.subi arg0 c1_i32_113
  let c256_i32_114 : BitVec 32 := 256#32
  let v309 : BitVec 32 := Scalar.muli v308 c256_i32_114
  let v310 : BitVec 32 := Scalar.addi v309 c0_i32_115
  let v311 : Index := Scalar.indexCast v310
  ![768, v311.toNat]
def k0_off13 (i : grid0.Coords) (c0_i32_128 : BitVec 32) : Fin 2 → Nat :=
  let c1024 : Index := 1024#32
  let arg0 : BitVec 32 := BitVec.ofNat 32 (i 0).val
  let c1_i32_126 : BitVec 32 := 1#32
  let v342 : BitVec 32 := Scalar.subi arg0 c1_i32_126
  let c256_i32_127 : BitVec 32 := 256#32
  let v343 : BitVec 32 := Scalar.muli v342 c256_i32_127
  let v344 : BitVec 32 := Scalar.addi v343 c0_i32_128
  let v345 : Index := Scalar.indexCast v344
  ![1024, v345.toNat]
def k0_off14 (i : grid0.Coords) (c0_i32_141 : BitVec 32) : Fin 2 → Nat :=
  let c1280 : Index := 1280#32
  let arg0 : BitVec 32 := BitVec.ofNat 32 (i 0).val
  let c1_i32_139 : BitVec 32 := 1#32
  let v376 : BitVec 32 := Scalar.subi arg0 c1_i32_139
  let c256_i32_140 : BitVec 32 := 256#32
  let v377 : BitVec 32 := Scalar.muli v376 c256_i32_140
  let v378 : BitVec 32 := Scalar.addi v377 c0_i32_141
  let v379 : Index := Scalar.indexCast v378
  ![1280, v379.toNat]
def k0_off15 (i : grid0.Coords) (c0_i32_154 : BitVec 32) : Fin 2 → Nat :=
  let c1536 : Index := 1536#32
  let arg0 : BitVec 32 := BitVec.ofNat 32 (i 0).val
  let c1_i32_152 : BitVec 32 := 1#32
  let v410 : BitVec 32 := Scalar.subi arg0 c1_i32_152
  let c256_i32_153 : BitVec 32 := 256#32
  let v411 : BitVec 32 := Scalar.muli v410 c256_i32_153
  let v412 : BitVec 32 := Scalar.addi v411 c0_i32_154
  let v413 : Index := Scalar.indexCast v412
  ![1536, v413.toNat]
def k0_off16 (i : grid0.Coords) (c0_i32_167 : BitVec 32) : Fin 2 → Nat :=
  let c1792 : Index := 1792#32
  let arg0 : BitVec 32 := BitVec.ofNat 32 (i 0).val
  let c1_i32_165 : BitVec 32 := 1#32
  let v444 : BitVec 32 := Scalar.subi arg0 c1_i32_165
  let c256_i32_166 : BitVec 32 := 256#32
  let v445 : BitVec 32 := Scalar.muli v444 c256_i32_166
  let v446 : BitVec 32 := Scalar.addi v445 c0_i32_167
  let v447 : Index := Scalar.indexCast v446
  ![1792, v447.toNat]
def k0_cond4 (i : grid0.Coords) : BitVec 1 :=
  let arg0 : BitVec 32 := BitVec.ofNat 32 (i 0).val
  let c8_i32_4 : BitVec 32 := 8#32
  let v11 : BitVec 1 := Scalar.cmpi .sgt arg0 c8_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c1_i32 : BitVec 32 := 1#32
  let v1 : BitVec 32 := Scalar.subi v0 c1_i32
  let c0_i32 : BitVec 32 := 0#32
  let c7_i32 : BitVec 32 := 7#32
  let v2 : BitVec 32 := Scalar.maxsi c0_i32 v1
  let v3 : BitVec 32 := Scalar.minsi c7_i32 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c1_i32 : BitVec 32 := 1#32
  let v1 : BitVec 32 := Scalar.subi v0 c1_i32
  let c0_i32 : BitVec 32 := 0#32
  let c7_i32 : BitVec 32 := 7#32
  let v2 : BitVec 32 := Scalar.maxsi c0_i32 v1
  let v3 : BitVec 32 := Scalar.minsi c7_i32 v2
  let c0_i32_0 : BitVec 32 := 0#32
  let c0_i32_1 : BitVec 32 := 0#32
  ![c0_i32_0.toNat, v3.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "log2e_inv_sqrt_d" => some (((Real.sqrt 128)⁻¹ * (Real.log 2)⁻¹ : ℝ) : EReal)
  | _ => none
-- ==== ReferenceIdeal.lean ====
abbrev S1x2048x2048 : Shape := ⟨3, ![1, 2048, 2048]⟩
abbrev S2048x2048 : Shape := ⟨2, ![2048, 2048]⟩
abbrev S_ : Shape := ⟨0, ![]⟩
abbrev S1x16x128x16x128 : Shape := ⟨5, ![1, 16, 128, 16, 128]⟩
abbrev S1x16x16x128x128 : Shape := ⟨5, ![1, 16, 16, 128, 128]⟩
abbrev S1x16x16x128 : Shape := ⟨4, ![1, 16, 16, 128]⟩
abbrev S1x16x16x128x1 : Shape := ⟨5, ![1, 16, 16, 128, 1]⟩

abbrev nBuf : Space → Nat
  | .hbm => 38
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S2048x2048, .f32⟩
  | .hbm, ⟨8, _⟩ => ⟨S1x2048x2048, .f32⟩
  | .hbm, ⟨9, _⟩ => ⟨S1x16x128x16x128, .f32⟩
  | .hbm, ⟨10, _⟩ => ⟨S2048x2048, .f32⟩
  | .hbm, ⟨11, _⟩ => ⟨S1x2048x2048, .f32⟩
  | .hbm, ⟨12, _⟩ => ⟨S1x16x128x16x128, .f32⟩
  | .hbm, ⟨13, _⟩ => ⟨S2048x2048, .f32⟩
  | .hbm, ⟨14, _⟩ => ⟨S1x2048x2048, .f32⟩
  | .hbm, ⟨15, _⟩ => ⟨S1x16x128x16x128, .f32⟩
  | .hbm, ⟨16, _⟩ => ⟨S1x16x16x128x128, .f32⟩
  | .hbm, ⟨17, _⟩ => ⟨S1x16x16x128x128, .f32⟩
  | .hbm, ⟨18, _⟩ => ⟨S1x16x16x128x128, .f32⟩
  | .hbm, ⟨19, _⟩ => ⟨S_, .f32⟩
  | .hbm, ⟨20, _⟩ => ⟨S1x16x16x128, .f32⟩
  | .hbm, ⟨21, _⟩ => ⟨S_, .f32⟩
  | .hbm, ⟨22, _⟩ => ⟨S1x16x16x128, .f32⟩
  | .hbm, ⟨23, _⟩ => ⟨S1x16x16x128, .f32⟩
  | .hbm, ⟨24, _⟩ => ⟨S1x16x16x128x1, .f32⟩
  | .hbm, ⟨25, _⟩ => ⟨S1x16x16x128x128, .f32⟩
  | .hbm, ⟨26, _⟩ => ⟨S1x16x16x128x128, .f32⟩
  | .hbm, ⟨27, _⟩ => ⟨S1x16x16x128x128, .f32⟩
  | .hbm, ⟨28, _⟩ => ⟨S_, .f32⟩
  | .hbm, ⟨29, _⟩ => ⟨S1x16x16x128, .f32⟩
  | .hbm, ⟨30, _⟩ => ⟨S1x16x16x128x1, .f32⟩
  | .hbm, ⟨31, _⟩ => ⟨S1x16x16x128x128, .f32⟩
  | .hbm, ⟨32, _⟩ => ⟨S1x16x16x128x128, .f32⟩
  | .hbm, ⟨33, _⟩ => ⟨S1x16x16x128x128, .f32⟩
  | .hbm, ⟨34, _⟩ => ⟨S1x16x128x16x128, .f32⟩
  | .hbm, ⟨35, _⟩ => ⟨S1x2048x2048, .f32⟩
  | .hbm, ⟨36, _⟩ => ⟨S2048x2048, .f32⟩
  | .hbm, ⟨37, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Over.lean ====
/-
  What a list of stores leaves in a buffer, as a function of what the buffer held before and of the stored pieces: used for
  the attention scratch, which a grid point overwrites in part.
-/
module

public import Idealize.ShloMosaic.Lib.Pipeline.FrameBody

@[expose] public section

namespace Cert.Over

open Idealize.ShloMosaic

variable {s : Shape} {e : EltTy} {Val : EltTy → Type}

/-- Contents `a` after the stores `L`, the last store first in the list. -/
def over (L : List (View.Piece Val s e)) (a : s.Idx → Val e) : s.Idx → Val e :=
  match L with
  | [] => a
  | p :: L => p.1.overlay (over L a) p.2

/-- A buffer written by the stores `L` reads as its earlier contents with `L` on top. -/
theorem read_writes_over {sig : RefSig} {κ : Kind} {sp : Space} (v : View sig κ sp s e) (f : v.ty.Contents Val) :
    ∀ L : List (View.Piece Val s e), v.read Val (v.writes Val f L) = over L (v.read Val f)
  | [] => rfl
  | p :: L => by
    obtain ⟨r, w⟩ := p
    funext y
    by_cases hy : y ∈ r.set
    · obtain ⟨x, rfl⟩ : ∃ x, r.emb x = y := r.exists_idx_of_mem hy
      rw [View.read_writes_cons_emb]
      exact (r.overlay_emb _ _ x).symm
    · rw [View.read_writes_cons_miss _ _ _ _ _ hy, read_writes_over v f L]
      exact (r.overlay_of_not_mem _ _ hy).symm

/-- Where some store lies and every store agrees with `G`, the contents are `G`. -/
theorem over_apply_of_pieces (G a : s.Idx → Val e) (y : s.Idx) :
    ∀ L : List (View.Piece Val s e), (∀ p ∈ L, ∀ x : p.1.shape.Idx, p.2 x = G (p.1.emb x)) →
      (∃ p ∈ L, y ∈ p.1.set) → over L a y = G y
  | [], _, h => by obtain ⟨_, hm, _⟩ := h; exact absurd hm List.not_mem_nil
  | p :: L, hG, h => by
    by_cases hy : y ∈ p.1.set
    · obtain ⟨r, w⟩ := p
      obtain ⟨x, rfl⟩ : ∃ x, r.emb x = y := r.exists_idx_of_mem hy
      exact (r.overlay_emb _ _ x).trans (hG ⟨r, w⟩ List.mem_cons_self x)
    · obtain ⟨p', hm, hy'⟩ := h
      have hm' : p' ∈ L := by
        rcases List.mem_cons.mp hm with rfl | hm
        · exact absurd hy' hy
        · exact hm
      exact (p.1.overlay_of_not_mem _ _ hy).trans
        (over_apply_of_pieces G a y L (fun q hq => hG q (List.mem_cons_of_mem _ hq)) ⟨p', hm', hy'⟩)

/-- Off every store the contents are as before. -/
theorem over_apply_of_not_mem (a : s.Idx → Val e) (y : s.Idx) :
    ∀ L : List (View.Piece Val s e), (∀ p ∈ L, y ∉ p.1.set) → over L a y = a y
  | [], _ => rfl
  | p :: L, h => (p.1.overlay_of_not_mem _ _ (h p List.mem_cons_self)).trans
      (over_apply_of_not_mem a y L fun q hq => h q (List.mem_cons_of_mem _ hq))

end Cert.Over
-- ==== Proof.KernelIdealBody.lean ====
module

public import proofs.«01_k».proof.Proof.Gen.KernelIdeal.Frame
public import proofs.«01_k».proof.Proof.Gen.KernelIdeal.Skeleton
public import Idealize.ShloMosaic.Lib.Claim
public import Idealize.ShloMosaic.Lib.Pipeline.Value
public import proofs.«01_k».proof.Proof.Over

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Over
open Idealize.ShloMosaic.Pipeline (Dat Cfg Window BodyObligation cellOf)

variable {F : FTy → Type} [FloatOps F] [Named F]

local notation "𝕄" => MT nD τ sig Unit (Elt F) ℕ (UR sig nD τ) ℕ

/-- The column chunk the point attends, as the kernel's word arithmetic reads it: the point before. -/
@[irreducible] def prevChunk (i : grid0.Coords) : Nat := ((i 0).val + 16777215) % 16777216

/-- The kernel's word arithmetic for the first column of head 0 and of head 1 of the chunk attended. -/
theorem chain_eq (i : grid0.Coords) :
    (Scalar.indexCast (Scalar.addi (Scalar.muli (Scalar.subi (BitVec.ofNat 32 (i 0).val) 1#32) 256#32) 0#32)).toNat = 256 * prevChunk i + 0
    ∧ (Scalar.indexCast (Scalar.addi (Scalar.muli (Scalar.subi (BitVec.ofNat 32 (i 0).val) 1#32) 256#32) 128#32)).toNat = 256 * prevChunk i + 128 := by
  have key : ∀ t : Fin 17, (Scalar.indexCast (Scalar.addi (Scalar.muli (Scalar.subi (BitVec.ofNat 32 t.val) 1#32) 256#32) 0#32)).toNat = 256 * ((t.val + 16777215) % 16777216) + 0
    ∧ (Scalar.indexCast (Scalar.addi (Scalar.muli (Scalar.subi (BitVec.ofNat 32 t.val) 1#32) 256#32) 128#32)).toNat = 256 * ((t.val + 16777215) % 16777216) + 128 := by
    decide +kernel
  unfold prevChunk; exact key (i 0)

/-- A pair of offsets is settled by its column. -/
theorem pair_congr {a b b' : Nat} (h : b = b') : (![a, b] : Fin 2 → Nat) = ![a, b'] := by rw [h]

instance (i : grid0.Coords) : ClosedOff (k0_off1 i 0#32) := ⟨![0, 256 * prevChunk i + 0], pair_congr (chain_eq i).1⟩
instance (i : grid0.Coords) : ClosedOff (k0_off1 i 128#32) := ⟨![0, 256 * prevChunk i + 128], pair_congr (chain_eq i).2⟩
instance (i : grid0.Coords) : ClosedOff (k0_off2 i 0#32) := ⟨![256, 256 * prevChunk i + 0], pair_congr (chain_eq i).1⟩
instance (i : grid0.Coords) : ClosedOff (k0_off2 i 128#32) := ⟨![256, 256 * prevChunk i + 128], pair_congr (chain_eq i).2⟩
instance (i : grid0.Coords) : ClosedOff (k0_off3 i 0#32) := ⟨![512, 256 * prevChunk i + 0], pair_congr (chain_eq i).1⟩
instance (i : grid0.Coords) : ClosedOff (k0_off3 i 128#32) := ⟨![512, 256 * prevChunk i + 128], pair_congr (chain_eq i).2⟩
instance (i : grid0.Coords) : ClosedOff (k0_off4 i 0#32) := ⟨![768, 256 * prevChunk i + 0], pair_congr (chain_eq i).1⟩
instance (i : grid0.Coords) : ClosedOff (k0_off4 i 128#32) := ⟨![768, 256 * prevChunk i + 128], pair_congr (chain_eq i).2⟩
instance (i : grid0.Coords) : ClosedOff (k0_off5 i 0#32) := ⟨![1024, 256 * prevChunk i + 0], pair_congr (chain_eq i).1⟩
instance (i : grid0.Coords) : ClosedOff (k0_off5 i 128#32) := ⟨![1024, 256 * prevChunk i + 128], pair_congr (chain_eq i).2⟩
instance (i : grid0.Coords) : ClosedOff (k0_off6 i 0#32) := ⟨![1280, 256 * prevChunk i + 0], pair_congr (chain_eq i).1⟩
instance (i : grid0.Coords) : ClosedOff (k0_off6 i 128#32) := ⟨![1280, 256 * prevChunk i + 128], pair_congr (chain_eq i).2⟩
instance (i : grid0.Coords) : ClosedOff (k0_off7 i 0#32) := ⟨![1536, 256 * prevChunk i + 0], pair_congr (chain_eq i).1⟩
instance (i : grid0.Coords) : ClosedOff (k0_off7 i 128#32) := ⟨![1536, 256 * prevChunk i + 128], pair_congr (chain_eq i).2⟩
instance (i : grid0.Coords) : ClosedOff (k0_off8 i 0#32) := ⟨![1792, 256 * prevChunk i + 0], pair_congr (chain_eq i).1⟩
instance (i : grid0.Coords) : ClosedOff (k0_off8 i 128#32) := ⟨![1792, 256 * prevChunk i + 128], pair_congr (chain_eq i).2⟩
instance (i : grid0.Coords) : ClosedOff (k0_off9 i 0#32) := ⟨![0, 256 * prevChunk i + 0], pair_congr (chain_eq i).1⟩
instance (i : grid0.Coords) : ClosedOff (k0_off9 i 128#32) := ⟨![0, 256 * prevChunk i + 128], pair_congr (chain_eq i).2⟩
instance (i : grid0.Coords) : ClosedOff (k0_off10 i 0#32) := ⟨![256, 256 * prevChunk i + 0], pair_congr (chain_eq i).1⟩
instance (i : grid0.Coords) : ClosedOff (k0_off10 i 128#32) := ⟨![256, 256 * prevChunk i + 128], pair_congr (chain_eq i).2⟩
instance (i : grid0.Coords) : ClosedOff (k0_off11 i 0#32) := ⟨![512, 256 * prevChunk i + 0], pair_congr (chain_eq i).1⟩
instance (i : grid0.Coords) : ClosedOff (k0_off11 i 128#32) := ⟨![512, 256 * prevChunk i + 128], pair_congr (chain_eq i).2⟩
instance (i : grid0.Coords) : ClosedOff (k0_off12 i 0#32) := ⟨![768, 256 * prevChunk i + 0], pair_congr (chain_eq i).1⟩
instance (i : grid0.Coords) : ClosedOff (k0_off12 i 128#32) := ⟨![768, 256 * prevChunk i + 128], pair_congr (chain_eq i).2⟩
instance (i : grid0.Coords) : ClosedOff (k0_off13 i 0#32) := ⟨![1024, 256 * prevChunk i + 0], pair_congr (chain_eq i).1⟩
instance (i : grid0.Coords) : ClosedOff (k0_off13 i 128#32) := ⟨![1024, 256 * prevChunk i + 128], pair_congr (chain_eq i).2⟩
instance (i : grid0.Coords) : ClosedOff (k0_off14 i 0#32) := ⟨![1280, 256 * prevChunk i + 0], pair_congr (chain_eq i).1⟩
instance (i : grid0.Coords) : ClosedOff (k0_off14 i 128#32) := ⟨![1280, 256 * prevChunk i + 128], pair_congr (chain_eq i).2⟩
instance (i : grid0.Coords) : ClosedOff (k0_off15 i 0#32) := ⟨![1536, 256 * prevChunk i + 0], pair_congr (chain_eq i).1⟩
instance (i : grid0.Coords) : ClosedOff (k0_off15 i 128#32) := ⟨![1536, 256 * prevChunk i + 128], pair_congr (chain_eq i).2⟩
instance (i : grid0.Coords) : ClosedOff (k0_off16 i 0#32) := ⟨![1792, 256 * prevChunk i + 0], pair_congr (chain_eq i).1⟩
instance (i : grid0.Coords) : ClosedOff (k0_off16 i 128#32) := ⟨![1792, 256 * prevChunk i + 128], pair_congr (chain_eq i).2⟩

/-! ## What a point computes, over any float values -/

/-- The pairs of positions of two neighbouring blocks that lie in one block, as the kernel computes them from two iotas. -/
def mask : IVec S256x256 1 :=
  k0_pay22 (iota .tc S256x256 32 [1] iota_S256x256_d1_w32) k0_pay19 128#32 k0_pay20 k0_pay21
    (Scalar.extui (Scalar.cmpi .sgt 128#32 0#32)) (Scalar.extui (Scalar.cmpi .slt 128#32 0#32))

/-- The unnormalised weights of two neighbouring blocks and one head: `exp2` of the clamped scores inside a block, zero across. -/
def weights (qs ks : FVec F S256x128 .bf16) : FVec F S256x256 .f32 :=
  select mask (exp2 (minimumf (matmul dot_S256x128_S256x128_S256x256_1_1_0_0_n_n none qs ks (constant S256x256 .f32 0x00000000#32))
    (broadcast S256x256 (Scalar.ofBits .f32 0x42AC0000#32)))) (broadcast S256x256 (Scalar.ofBits .f32 0x00000000#32))

/-- The weighted sum of the values over the sum of the weights. -/
def mix (w : FVec F S256x256 .f32) (vs : FVec F S256x128 .bf16) : FVec F S256x128 .bf16 :=
  shapeCast S256x128 (truncf .bf16 (mulf
    (matmul dot_S256x256_S256x128_S256x128_1_0_0_1_n_n none (truncf .bf16 w bitsLt_bf16_f32) vs (constant S256x128 .f32 0x00000000#32))
    (broadcastTo S256x128 (divf (broadcast S256x1 (Scalar.ofBits .f32 0x3F800000#32))
      (shapeCast S256x1 (multiReduction .add [1] S256 w 0x00000000#32 reduces_S256x256_S256 (.inl rfl) rfl) shapeCasts_S256_S256x1))
      broadcasts_S256x1_S256x128)) bitsLt_bf16_f32) shapeCasts_S256x128_S256x128

/-- The attention of the 256 rows and 128 columns of a chunk that start at `ofs`. -/
def attendOf (ofs : Fin 2 → Nat) (hs : S2048x256.Slices ofs S256x128) (q k v : Vec F S2048x256 .bf16) : FVec F S256x128 .bf16 :=
  mix (weights (extractStridedSlice S256x128 ofs q hs) (extractStridedSlice S256x128 ofs k hs)) (extractStridedSlice S256x128 ofs v hs)

/-- The sixteen stores of a point that attends (last first): pair of blocks `n` and head `h` at the offsets `off n h`. -/
def attnStores (off : Fin 8 → Fin 2 → Fin 2 → Nat) (inb : ∀ n h a, off n h a + S256x128.size a ≤ S2048x2048.size a) (q k v : Vec F S2048x256 .bf16) :
    List (View.Piece (Elt F) S2048x2048 .bf16) :=
  [⟨Rect.unit (off 7 1) S256x128.size (inb 7 1), attendOf ![1792, 128] slices_S2048x256_o1792_128_S256x128 q k v⟩,
   ⟨Rect.unit (off 7 0) S256x128.size (inb 7 0), attendOf ![1792, 0] slices_S2048x256_o1792_0_S256x128 q k v⟩,
   ⟨Rect.unit (off 6 1) S256x128.size (inb 6 1), attendOf ![1536, 128] slices_S2048x256_o1536_128_S256x128 q k v⟩,
   ⟨Rect.unit (off 6 0) S256x128.size (inb 6 0), attendOf ![1536, 0] slices_S2048x256_o1536_0_S256x128 q k v⟩,
   ⟨Rect.unit (off 5 1) S256x128.size (inb 5 1), attendOf ![1280, 128] slices_S2048x256_o1280_128_S256x128 q k v⟩,
   ⟨Rect.unit (off 5 0) S256x128.size (inb 5 0), attendOf ![1280, 0] slices_S2048x256_o1280_0_S256x128 q k v⟩,
   ⟨Rect.unit (off 4 1) S256x128.size (inb 4 1), attendOf ![1024, 128] slices_S2048x256_o1024_128_S256x128 q k v⟩,
   ⟨Rect.unit (off 4 0) S256x128.size (inb 4 0), attendOf ![1024, 0] slices_S2048x256_o1024_0_S256x128 q k v⟩,
   ⟨Rect.unit (off 3 1) S256x128.size (inb 3 1), attendOf ![768, 128] slices_S2048x256_o768_128_S256x128 q k v⟩,
   ⟨Rect.unit (off 3 0) S256x128.size (inb 3 0), attendOf ![768, 0] slices_S2048x256_o768_0_S256x128 q k v⟩,
   ⟨Rect.unit (off 2 1) S256x128.size (inb 2 1), attendOf ![512, 128] slices_S2048x256_o512_128_S256x128 q k v⟩,
   ⟨Rect.unit (off 2 0) S256x128.size (inb 2 0), attendOf ![512, 0] slices_S2048x256_o512_0_S256x128 q k v⟩,
   ⟨Rect.unit (off 1 1) S256x128.size (inb 1 1), attendOf ![256, 128] slices_S2048x256_o256_128_S256x128 q k v⟩,
   ⟨Rect.unit (off 1 0) S256x128.size (inb 1 0), attendOf ![256, 0] slices_S2048x256_o256_0_S256x128 q k v⟩,
   ⟨Rect.unit (off 0 1) S256x128.size (inb 0 1), attendOf ![0, 128] slices_S2048x256_o0_128_S256x128 q k v⟩,
   ⟨Rect.unit (off 0 0) S256x128.size (inb 0 0), attendOf ![0, 0] slices_S2048x256_o0_0_S256x128 q k v⟩]

/-- The offsets of the stores under the second condition. -/
def offMid (i : grid0.Coords) (n : Fin 8) (h : Fin 2) : Fin 2 → Nat :=
  match n, h with
  | 0, 0 => k0_off1 i 0#32
  | 0, 1 => k0_off1 i 128#32
  | 1, 0 => k0_off2 i 0#32
  | 1, 1 => k0_off2 i 128#32
  | 2, 0 => k0_off3 i 0#32
  | 2, 1 => k0_off3 i 128#32
  | 3, 0 => k0_off4 i 0#32
  | 3, 1 => k0_off4 i 128#32
  | 4, 0 => k0_off5 i 0#32
  | 4, 1 => k0_off5 i 128#32
  | 5, 0 => k0_off6 i 0#32
  | 5, 1 => k0_off6 i 128#32
  | 6, 0 => k0_off7 i 0#32
  | 6, 1 => k0_off7 i 128#32
  | 7, 0 => k0_off8 i 0#32
  | 7, 1 => k0_off8 i 128#32

theorem offMid_inb (i : grid0.Coords) (hc : k0_cond2 i = 1#1) (n : Fin 8) (h : Fin 2) (a : Fin 2) : offMid i n h a + S256x128.size a ≤ S2048x2048.size a :=
  match n, h with
  | 0, 0 => k0_off1_inb i hc 0 a
  | 0, 1 => k0_off1_inb i hc 1 a
  | 1, 0 => k0_off2_inb i hc 0 a
  | 1, 1 => k0_off2_inb i hc 1 a
  | 2, 0 => k0_off3_inb i hc 0 a
  | 2, 1 => k0_off3_inb i hc 1 a
  | 3, 0 => k0_off4_inb i hc 0 a
  | 3, 1 => k0_off4_inb i hc 1 a
  | 4, 0 => k0_off5_inb i hc 0 a
  | 4, 1 => k0_off5_inb i hc 1 a
  | 5, 0 => k0_off6_inb i hc 0 a
  | 5, 1 => k0_off6_inb i hc 1 a
  | 6, 0 => k0_off7_inb i hc 0 a
  | 6, 1 => k0_off7_inb i hc 1 a
  | 7, 0 => k0_off8_inb i hc 0 a
  | 7, 1 => k0_off8_inb i hc 1 a

/-- The offsets of the stores under the third condition. -/
def offLast (i : grid0.Coords) (n : Fin 8) (h : Fin 2) : Fin 2 → Nat :=
  match n, h with
  | 0, 0 => k0_off9 i 0#32
  | 0, 1 => k0_off9 i 128#32
  | 1, 0 => k0_off10 i 0#32
  | 1, 1 => k0_off10 i 128#32
  | 2, 0 => k0_off11 i 0#32
  | 2, 1 => k0_off11 i 128#32
  | 3, 0 => k0_off12 i 0#32
  | 3, 1 => k0_off12 i 128#32
  | 4, 0 => k0_off13 i 0#32
  | 4, 1 => k0_off13 i 128#32
  | 5, 0 => k0_off14 i 0#32
  | 5, 1 => k0_off14 i 128#32
  | 6, 0 => k0_off15 i 0#32
  | 6, 1 => k0_off15 i 128#32
  | 7, 0 => k0_off16 i 0#32
  | 7, 1 => k0_off16 i 128#32

theorem offLast_inb (i : grid0.Coords) (hc : k0_cond3 i = 1#1) (n : Fin 8) (h : Fin 2) (a : Fin 2) : offLast i n h a + S256x128.size a ≤ S2048x2048.size a :=
  match n, h with
  | 0, 0 => k0_off9_inb i hc 0 a
  | 0, 1 => k0_off9_inb i hc 1 a
  | 1, 0 => k0_off10_inb i hc 0 a
  | 1, 1 => k0_off10_inb i hc 1 a
  | 2, 0 => k0_off11_inb i hc 0 a
  | 2, 1 => k0_off11_inb i hc 1 a
  | 3, 0 => k0_off12_inb i hc 0 a
  | 3, 1 => k0_off12_inb i hc 1 a
  | 4, 0 => k0_off13_inb i hc 0 a
  | 4, 1 => k0_off13_inb i hc 1 a
  | 5, 0 => k0_off14_inb i hc 0 a
  | 5, 1 => k0_off14_inb i hc 1 a
  | 6, 0 => k0_off15_inb i hc 0 a
  | 6, 1 => k0_off15_inb i hc 1 a
  | 7, 0 => k0_off16_inb i hc 0 a
  | 7, 1 => k0_off16_inb i hc 1 a

/-- A chunk of queries from the two halves of the rows of `x`, scaled. -/
def projQ (x : Vec F S2048x2048 .f32) (w : Vec F S256x2048 .f32) : Vec F S2048x256 .bf16 :=
  View.canon (Val := Elt F) [⟨Rect.unit (s := S2048x256) ![1024, 0] S1024x256.size inb_S2048x256_S1024x256_1024_0,
      k0_pay11 w (View.ld x (Rect.unit (s := S2048x2048) ![1024, 0] S1024x2048.size inb_S2048x2048_S1024x2048_1024_0))⟩,
    ⟨Rect.unit (s := S2048x256) ![0, 0] S1024x256.size inb_S2048x256_S1024x256_0_0,
      k0_pay11 w (View.ld x (Rect.unit (s := S2048x2048) ![0, 0] S1024x2048.size inb_S2048x2048_S1024x2048_0_0))⟩]

/-- A chunk of keys or of values from the two halves of the rows of `x`. -/
def projKV (x : Vec F S2048x2048 .f32) (w : Vec F S256x2048 .f32) : Vec F S2048x256 .bf16 :=
  View.canon (Val := Elt F) [⟨Rect.unit (s := S2048x256) ![1024, 0] S1024x256.size inb_S2048x256_S1024x256_1024_0,
      k0_pay12 w (View.ld x (Rect.unit (s := S2048x2048) ![1024, 0] S1024x2048.size inb_S2048x2048_S1024x2048_1024_0))⟩,
    ⟨Rect.unit (s := S2048x256) ![0, 0] S1024x256.size inb_S2048x256_S1024x256_0_0,
      k0_pay12 w (View.ld x (Rect.unit (s := S2048x2048) ![0, 0] S1024x2048.size inb_S2048x2048_S1024x2048_0_0))⟩]

/-- Two half chunks fill the chunk. -/
theorem halves_cover (p q : Vec F S1024x256 .bf16) (y : S2048x256.Idx) :
    ∃ pc ∈ ([⟨Rect.unit (s := S2048x256) ![1024, 0] S1024x256.size inb_S2048x256_S1024x256_1024_0, p⟩,
      ⟨Rect.unit (s := S2048x256) ![0, 0] S1024x256.size inb_S2048x256_S1024x256_0_0, q⟩] : List (View.Piece (Elt F) S2048x256 .bf16)), y ∈ pc.1.set :=
  View.cover_of_tiled [⟨Rect.unit (s := S2048x256) ![1024, 0] S1024x256.size inb_S2048x256_S1024x256_1024_0, p⟩,
      ⟨Rect.unit (s := S2048x256) ![0, 0] S1024x256.size inb_S2048x256_S1024x256_0_0, q⟩] S1024x256.size (by rfl) y

/-- The zero offsets. -/
theorem zero2 : (![0, 0] : Fin 2 → Nat) = fun _ => 0 := funext fun a => by fin_cases a <;> rfl

/-- A load of a whole chunk reads what the chunk holds. -/
theorem readAt_all (c : Dev nD) (m : Memref sig .tc .vmem S2048x256 .bf16) (inb : ∀ a, (![0, 0] : Fin 2 → Nat) a + S2048x256.size a ≤ S2048x256.size a)
    (f : m.view.ty.Contents (Elt F)) :
    View.readAt (Elt F) m.view (Rect.unit (s := S2048x256) ![0, 0] S2048x256.size inb).toLoadRect f = m.view.read (Elt F) f :=
  View.ld_unit_zero zero2 inb (m.view.read (Elt F) f)

/-- A load of a whole chunk of weights reads what it holds. -/
theorem readAt_w (c : Dev nD) (m : Memref sig .tc .vmem S256x2048 .f32) (inb : ∀ a, (![0, 0] : Fin 2 → Nat) a + S256x2048.size a ≤ S256x2048.size a)
    (f : m.view.ty.Contents (Elt F)) :
    View.readAt (Elt F) m.view (Rect.unit (s := S256x2048) ![0, 0] S256x2048.size inb).toLoadRect f = m.view.read (Elt F) f :=
  View.ld_unit_zero zero2 inb (m.view.read (Elt F) f)

/-! ## The body at a point, by the four kinds of point -/

/-- The point that attends the last chunk and projects nothing. -/
theorem body_last (c : Dev nD) (E : Set ℕ) (i : grid0.Coords)
    (arg1 : Memref sig .tc .vmem S2048x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole)
    (arg6 : Memref sig .tc .vmem S2048x256 .f32) (harg6 : arg6.IsWhole) (arg7 : Memref sig .tc .vmem S2048x2048 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole)
    (h1 : ¬ Scalar.cmpi .ne (Scalar.extui (Scalar.cmpi .eq (BitVec.ofNat 32 (i 0).val) 0#32)) 0#32 = 1#1)
    (h2 : ¬ k0_cond2 i = 1#1) (h3 : k0_cond3 i = 1#1) (h4 : ¬ k0_cond4 i = 1#1)
    (a : Vec F S2048x2048 .bf16) (q k v : Vec F S2048x256 .bf16) (K : PUnit → sProp 𝕄) :
    iprop(owns (c : Thread nD τ) arg7 fullShare a ∗ owns (c : Thread nD τ) arg8 fullShare q ∗ owns (c : Thread nD τ) arg9 fullShare k ∗ owns (c : Thread nD τ) arg10 fullShare v
        ∗ (iprop(owns (c : Thread nD τ) arg7 fullShare (over (attnStores (offLast i) (offLast_inb i h3) q k v) a) ∗ owns (c : Thread nD τ) arg8 fullShare q ∗ owns (c : Thread nD τ) arg9 fullShare k ∗ owns (c : Thread nD τ) arg10 fullShare v) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  rw [cc0__fused_kernel_eq_skeleton]; unfold cc0__fused_kernel_skel
  unfold owns
  iintro ⟨⟨%f7, %hf7, H7⟩, ⟨%f8, %hf8, H8⟩, ⟨%f9, %hf9, H9⟩, ⟨%f10, %hf10, H10⟩, Hk⟩
  subst hf7 hf8 hf9 hf10
  simp only [dif_neg h1, dif_neg h2, dif_neg h4, dif_pos h3]
  simp only [k0_part24_eq_skeleton]; unfold k0_part24_skel
  simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold k0_part14_skel k0_part15_skel k0_part16_skel k0_part17_skel k0_part18_skel k0_part19_skel k0_part20_skel k0_part21_skel k0_part22_skel k0_part23_skel
  sl_exec
  dsimp only
  simp only [readAt_all c]
  sl_step
  iapply Hk
  isplitl [H7]
  · iexists _; isplitr
    swap; · iexact H7
    ipureintro
    exact read_writes_over _ _ (attnStores (offLast i) (offLast_inb i h3) (arg8.view.read (Elt F) f8) (arg9.view.read (Elt F) f9) (arg10.view.read (Elt F) f10))
  isplitl [H8]
  · iexists f8; isplitr; · ipureintro; rfl
    iexact H8
  isplitl [H9]
  · iexists f9; isplitr; · ipureintro; rfl
    iexact H9
  iexists f10; isplitr; · ipureintro; rfl
  iexact H10

/-- The first point, which projects the first chunk. -/
theorem body_first (c : Dev nD) (E : Set ℕ) (i : grid0.Coords)
    (arg1 : Memref sig .tc .vmem S2048x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole)
    (arg6 : Memref sig .tc .vmem S2048x256 .f32) (harg6 : arg6.IsWhole) (arg7 : Memref sig .tc .vmem S2048x2048 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole)
    (h1 : Scalar.cmpi .ne (Scalar.extui (Scalar.cmpi .eq (BitVec.ofNat 32 (i 0).val) 0#32)) 0#32 = 1#1)
    (h2 : ¬ k0_cond2 i = 1#1) (h3 : ¬ k0_cond3 i = 1#1) (h4 : ¬ k0_cond4 i = 1#1)
    (x : Vec F S2048x2048 .f32) (wq wk wv : Vec F S256x2048 .f32) (K : PUnit → sProp 𝕄) :
    iprop(owns (c : Thread nD τ) arg1 fullShare x ∗ owns (c : Thread nD τ) arg2 fullShare wq ∗ owns (c : Thread nD τ) arg3 fullShare wk ∗ owns (c : Thread nD τ) arg4 fullShare wv ∗ (∃ d : Vec F S2048x256 .bf16, owns (c : Thread nD τ) arg8 fullShare d) ∗ (∃ d : Vec F S2048x256 .bf16, owns (c : Thread nD τ) arg9 fullShare d) ∗ (∃ d : Vec F S2048x256 .bf16, owns (c : Thread nD τ) arg10 fullShare d)
        ∗ (iprop(owns (c : Thread nD τ) arg1 fullShare x ∗ owns (c : Thread nD τ) arg2 fullShare wq ∗ owns (c : Thread nD τ) arg3 fullShare wk ∗ owns (c : Thread nD τ) arg4 fullShare wv ∗ owns (c : Thread nD τ) arg8 fullShare (projQ x wq) ∗ owns (c : Thread nD τ) arg9 fullShare (projKV x wk) ∗ owns (c : Thread nD τ) arg10 fullShare (projKV x wv)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  rw [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%d8, %f8, -, H8⟩, ⟨%d9, %f9, -, H9⟩, ⟨%d10, %f10, -, H10⟩, Hk⟩
  subst hf1 hf2 hf3 hf4
  simp only [dif_pos h1, dif_neg h2, dif_neg h3, dif_neg h4]
  simp only [k0_part1_eq_skeleton]; unfold k0_part1_skel
  sl_exec
  dsimp only
  simp only [readAt_w c]
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    exact View.read_writes_eq_canon _ _ _ (halves_cover (_ : Vec F S1024x256 .bf16) (_ : Vec F S1024x256 .bf16))
  isplitl [H9]
  · iexists _; isplitr
    swap; · iexact H9
    ipureintro
    exact View.read_writes_eq_canon _ _ _ (halves_cover (_ : Vec F S1024x256 .bf16) (_ : Vec F S1024x256 .bf16))
  iexists _; isplitr
  swap; · iexact H10
  ipureintro
  exact View.read_writes_eq_canon _ _ _ (halves_cover (_ : Vec F S1024x256 .bf16) (_ : Vec F S1024x256 .bf16))

/-- A point that attends the chunk before and projects its own. -/
theorem body_mid (c : Dev nD) (E : Set ℕ) (i : grid0.Coords)
    (arg1 : Memref sig .tc .vmem S2048x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole)
    (arg6 : Memref sig .tc .vmem S2048x256 .f32) (harg6 : arg6.IsWhole) (arg7 : Memref sig .tc .vmem S2048x2048 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole)
    (h1 : ¬ Scalar.cmpi .ne (Scalar.extui (Scalar.cmpi .eq (BitVec.ofNat 32 (i 0).val) 0#32)) 0#32 = 1#1)
    (h2 : k0_cond2 i = 1#1) (h3 : ¬ k0_cond3 i = 1#1) (h4 : ¬ k0_cond4 i = 1#1)
    (x : Vec F S2048x2048 .f32) (wq wk wv : Vec F S256x2048 .f32)
    (a : Vec F S2048x2048 .bf16) (q k v : Vec F S2048x256 .bf16) (K : PUnit → sProp 𝕄) :
    iprop(owns (c : Thread nD τ) arg1 fullShare x ∗ owns (c : Thread nD τ) arg2 fullShare wq ∗ owns (c : Thread nD τ) arg3 fullShare wk ∗ owns (c : Thread nD τ) arg4 fullShare wv ∗ owns (c : Thread nD τ) arg7 fullShare a ∗ owns (c : Thread nD τ) arg8 fullShare q ∗ owns (c : Thread nD τ) arg9 fullShare k ∗ owns (c : Thread nD τ) arg10 fullShare v
        ∗ (iprop(owns (c : Thread nD τ) arg1 fullShare x ∗ owns (c : Thread nD τ) arg2 fullShare wq ∗ owns (c : Thread nD τ) arg3 fullShare wk ∗ owns (c : Thread nD τ) arg4 fullShare wv ∗ owns (c : Thread nD τ) arg7 fullShare (over (attnStores (offMid i) (offMid_inb i h2) q k v) a) ∗ owns (c : Thread nD τ) arg8 fullShare (projQ x wq) ∗ owns (c : Thread nD τ) arg9 fullShare (projKV x wk) ∗ owns (c : Thread nD τ) arg10 fullShare (projKV x wv)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  rw [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, ⟨%f10, %hf10, H10⟩, Hk⟩
  subst hf1 hf2 hf3 hf4 hf7 hf8 hf9 hf10
  simp only [dif_neg h1, dif_pos h2, dif_neg h3, dif_neg h4]
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part2_skel k0_part3_skel k0_part4_skel k0_part5_skel k0_part6_skel k0_part7_skel k0_part8_skel k0_part9_skel k0_part10_skel k0_part11_skel k0_part12_skel k0_part13_skel
  sl_exec
  dsimp only
  simp only [readAt_all c, readAt_w c]
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    exact read_writes_over _ _ (attnStores (offMid i) (offMid_inb i h2) (arg8.view.read (Elt F) f8) (arg9.view.read (Elt F) f9) (arg10.view.read (Elt F) f10))
  isplitl [H8]
  · iexists _; isplitr
    swap; · iexact H8
    ipureintro
    exact View.read_writes_eq_canon _ _ _ (halves_cover (_ : Vec F S1024x256 .bf16) (_ : Vec F S1024x256 .bf16))
  isplitl [H9]
  · iexists _; isplitr
    swap; · iexact H9
    ipureintro
    exact View.read_writes_eq_canon _ _ _ (halves_cover (_ : Vec F S1024x256 .bf16) (_ : Vec F S1024x256 .bf16))
  iexists _; isplitr
  swap; · iexact H10
  ipureintro
  exact View.read_writes_eq_canon _ _ _ (halves_cover (_ : Vec F S1024x256 .bf16) (_ : Vec F S1024x256 .bf16))

/-- A point that projects the attention to a chunk of the result. -/
theorem body_out (c : Dev nD) (E : Set ℕ) (i : grid0.Coords)
    (arg1 : Memref sig .tc .vmem S2048x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole)
    (arg6 : Memref sig .tc .vmem S2048x256 .f32) (harg6 : arg6.IsWhole) (arg7 : Memref sig .tc .vmem S2048x2048 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole)
    (h1 : ¬ Scalar.cmpi .ne (Scalar.extui (Scalar.cmpi .eq (BitVec.ofNat 32 (i 0).val) 0#32)) 0#32 = 1#1)
    (h2 : ¬ k0_cond2 i = 1#1) (h3 : ¬ k0_cond3 i = 1#1) (h4 : k0_cond4 i = 1#1)
    (wo : Vec F S256x2048 .f32) (a : Vec F S2048x2048 .bf16) (K : PUnit → sProp 𝕄) :
    iprop(owns (c : Thread nD τ) arg5 fullShare wo ∗ (∃ d : Vec F S2048x256 .f32, owns (c : Thread nD τ) arg6 fullShare d) ∗ owns (c : Thread nD τ) arg7 fullShare a
        ∗ (iprop(owns (c : Thread nD τ) arg5 fullShare wo ∗ owns (c : Thread nD τ) arg6 fullShare (k0_pay6 wo a) ∗ owns (c : Thread nD τ) arg7 fullShare a) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  rw [cc0__fused_kernel_eq_skeleton]; unfold cc0__fused_kernel_skel
  unfold owns
  iintro ⟨⟨%f5, %hf5, H5⟩, ⟨%d6, %f6, -, H6⟩, ⟨%f7, %hf7, H7⟩, Hk⟩
  subst hf5 hf7
  simp only [dif_neg h1, dif_neg h2, dif_neg h3, dif_pos h4]
  sl_exec
  sl_step
  iapply Hk
  isplitl [H5]
  · iexists f5; isplitr; · ipureintro; rfl
    iexact H5
  isplitl [H6]
  · iexists _; isplitr
    swap; · iexact H6
    ipureintro
    refine (View.read_writes_eq_canon _ _ _ (View.cover_of_tiled _ S2048x256.size (by rfl))).trans ?_
    refine (View.canon_unit_zero zero2 _ _).trans ?_
    exact congrArg₂ (fun wo a => k0_pay6 wo a) (View.ld_unit_zero zero2 _ (arg5.view.read (Elt F) f5)) (View.ld_unit_zero zero2 _ (arg7.view.read (Elt F) f7))
  iexists f7; isplitr; · ipureintro; rfl
  iexact H7

end Cert.KernelIdeal.Hand
-- ==== Proof.KernelIdealRun.lean ====
module

public import proofs.«01_k».proof.Proof.KernelIdealBody
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.Over
open Idealize.ShloMosaic.Pipeline (Dat Cfg Window BodyObligation FramePost afterTail₀)

variable {F : FTy → Type} [FloatOps F] [Named F]

local notation "𝕄" => MT nD τ sig Unit (Elt F) ℕ (UR sig nD τ) ℕ

/-! ## What a point that attends leaves in the attention buffer -/

/-- The block of 256 rows `n` and 128 columns `h` lies within a chunk. -/
theorem blk_slices (n : Fin 8) (h : Fin 2) : S2048x256.Slices ![256 * n.val, 128 * h.val] S256x128 := by
  revert n h; decide

/-- The attention of pair of blocks `n` and head `h` of a chunk. -/
def attendBlk (n : Fin 8) (h : Fin 2) (q k v : Vec F S2048x256 .bf16) : FVec F S256x128 .bf16 :=
  attendOf ![256 * n.val, 128 * h.val] (blk_slices n h) q k v

/-- The attention of a chunk: every element from its own pair of blocks and head. -/
def attendAll (q k v : Vec F S2048x256 .bf16) : Vec F S2048x256 .bf16 := fun y =>
  attendBlk ⟨(y 0).val / 256, by have := idx2_lt0 y; omega⟩ ⟨(y 1).val / 128, by have := idx2_lt1 y; omega⟩ q k v
    (ix2 ⟨(y 0).val % 256, Nat.mod_lt _ (by decide)⟩ ⟨(y 1).val % 128, Nat.mod_lt _ (by decide)⟩)

/-- The sixteen (pair of blocks, head), the last stored first. -/
def order : List (Fin 8 × Fin 2) :=
  [(7, 1), (7, 0), (6, 1), (6, 0), (5, 1), (5, 0), (4, 1), (4, 0), (3, 1), (3, 0), (2, 1), (2, 0), (1, 1), (1, 0), (0, 1), (0, 0)]

theorem mem_order (nh : Fin 8 × Fin 2) : nh ∈ order := by revert nh; decide

/-- The sixteen stores are one per pair of blocks and head. -/
theorem attnStores_eq (off : Fin 8 → Fin 2 → Fin 2 → Nat) (inb : ∀ n h a, off n h a + S256x128.size a ≤ S2048x2048.size a) (q k v : Vec F S2048x256 .bf16) :
    attnStores off inb q k v
      = order.map fun nh => ⟨Rect.unit (s := S2048x2048) (off nh.1 nh.2) S256x128.size (inb nh.1 nh.2), attendBlk nh.1 nh.2 q k v⟩ := rfl

/-- The column of a chunk under a column of the whole. -/
def inChunk (y : S2048x2048.Idx) : S2048x256.Idx :=
  ix2 ⟨(y 0).val, idx2_lt0 y⟩ ⟨(y 1).val % 256, Nat.mod_lt _ (by decide)⟩

/-- In the columns of chunk `C` the stores leave the chunk's attention. -/
theorem over_attn_in (off : Fin 8 → Fin 2 → Fin 2 → Nat) (inb : ∀ n h a, off n h a + S256x128.size a ≤ S2048x2048.size a) (C : Nat)
    (hoff : ∀ n h, off n h = ![256 * n.val, 256 * C + 128 * h.val]) (q k v : Vec F S2048x256 .bf16) (a : Vec F S2048x2048 .bf16)
    (y : S2048x2048.Idx) (hy : (y 1).val / 256 = C) :
    over (attnStores off inb q k v) a y = attendAll q k v (inChunk y) := by
  have e0 : (y 0).val < 2048 := idx2_lt0 y
  have e1 : (y 1).val < 2048 := idx2_lt1 y
  refine over_apply_of_pieces (fun y => attendAll q k v (inChunk y)) a y _ ?_ ?_
  · intro p hp x
    rw [attnStores_eq] at hp
    obtain ⟨⟨n, h⟩, -, rfl⟩ := List.mem_map.mp hp
    have x0 : (x 0).val < 256 := (x 0).isLt
    have x1 : (x 1).val < 128 := (x 1).isLt
    have y0 : (((Rect.unit (s := S2048x2048) (off n h) S256x128.size (inb n h)).emb x) 0).val = 256 * n.val + (x 0).val := by
      rw [Rect.emb_apply]; simp [Rect.off_unit, hoff]
    have y1 : (((Rect.unit (s := S2048x2048) (off n h) S256x128.size (inb n h)).emb x) 1).val = 256 * C + 128 * h.val + (x 1).val := by
      rw [Rect.emb_apply]; simp [Rect.off_unit, hoff]
    have hh : h.val < 2 := h.isLt
    show attendBlk n h q k v x = attendAll q k v (inChunk _)
    have a0 : (256 * n.val + (x 0).val) / 256 = n.val := by omega
    have a1 : (256 * n.val + (x 0).val) % 256 = (x 0).val := by omega
    have b0 : (256 * C + 128 * h.val + (x 1).val) % 256 / 128 = h.val := by omega
    have b1 : (256 * C + 128 * h.val + (x 1).val) % 256 % 128 = (x 1).val := by omega
    unfold attendAll inChunk
    simp only [y0, y1, a0, a1, b0, b1]
    congr 1
    funext d; match d with | ⟨0, _⟩ => rfl | ⟨1, _⟩ => rfl
  · refine ⟨_, by rw [attnStores_eq]; exact List.mem_map.mpr ⟨(⟨(y 0).val / 256, by omega⟩, ⟨(y 1).val % 256 / 128, by omega⟩), mem_order _, rfl⟩, ?_⟩
    rw [Rect.mem_set_unit]
    intro d
    rw [hoff]
    match d with
    | ⟨0, _⟩ => show 256 * ((y 0).val / 256) ≤ (y 0).val ∧ (y 0).val < 256 * ((y 0).val / 256) + 256; omega
    | ⟨1, _⟩ => show 256 * C + 128 * ((y 1).val % 256 / 128) ≤ (y 1).val ∧ (y 1).val < 256 * C + 128 * ((y 1).val % 256 / 128) + 128; omega

/-- Out of the columns of chunk `C` the stores change nothing. -/
theorem over_attn_out (off : Fin 8 → Fin 2 → Fin 2 → Nat) (inb : ∀ n h a, off n h a + S256x128.size a ≤ S2048x2048.size a) (C : Nat)
    (hoff : ∀ n h, off n h = ![256 * n.val, 256 * C + 128 * h.val]) (q k v : Vec F S2048x256 .bf16) (a : Vec F S2048x2048 .bf16)
    (y : S2048x2048.Idx) (hy : (y 1).val / 256 ≠ C) :
    over (attnStores off inb q k v) a y = a y := by
  refine over_apply_of_not_mem a y _ fun p hp hm => hy ?_
  rw [attnStores_eq] at hp
  obtain ⟨⟨n, h⟩, -, rfl⟩ := List.mem_map.mp hp
  rw [Rect.mem_set_unit] at hm
  have := hm 1
  rw [hoff] at this
  have hh : h.val < 2 := h.isLt
  replace this : 256 * C + 128 * h.val ≤ (y 1).val ∧ (y 1).val < 256 * C + 128 * h.val + 128 := this
  omega

/-- The stores' offsets in closed form. -/
theorem offMid_eq (i : grid0.Coords) (n : Fin 8) (h : Fin 2) : offMid i n h = ![256 * n.val, 256 * prevChunk i + 128 * h.val] := by
  fin_cases n <;> fin_cases h <;> first | exact pair_congr (chain_eq i).1 | exact pair_congr (chain_eq i).2
theorem offLast_eq (i : grid0.Coords) (n : Fin 8) (h : Fin 2) : offLast i n h = ![256 * n.val, 256 * prevChunk i + 128 * h.val] := by
  fin_cases n <;> fin_cases h <;> first | exact pair_congr (chain_eq i).1 | exact pair_congr (chain_eq i).2

/-! ## The conditions at a point -/

theorem prevChunk_eq : ∀ t : Fin grid0.N, 1 ≤ t.val → prevChunk (grid0.coords t) = t.val - 1 := by
  unfold prevChunk; decide +kernel
theorem cond1_iff : ∀ t : Fin grid0.N, (Scalar.cmpi .ne (Scalar.extui (Scalar.cmpi .eq (BitVec.ofNat 32 ((grid0.coords t) 0).val) 0#32)) 0#32 = 1#1) ↔ t.val = 0 := by
  decide +kernel
theorem cond2_iff : ∀ t : Fin grid0.N, (k0_cond2 (grid0.coords t) = 1#1) ↔ (1 ≤ t.val ∧ t.val < 8) := by decide +kernel
theorem cond3_iff : ∀ t : Fin grid0.N, (k0_cond3 (grid0.coords t) = 1#1) ↔ t.val = 8 := by decide +kernel
theorem cond4_iff : ∀ t : Fin grid0.N, (k0_cond4 (grid0.coords t) = 1#1) ↔ 8 < t.val := by decide +kernel
theorem idle5_iff : ∀ t : Fin cfg0.N, cfg0.idle 5 (cfg0.grid.coords t) = decide (t.val ≤ 8) := by decide +kernel
theorem flush5_early : ∀ t : Fin cfg0.N, t.val ≤ 8 → (cfg0.win 5).flush t = false := by decide +kernel

/-! ## What the scratch holds before a point -/

variable (m : (ℓ : Loc nD τ sig) → Buf (Elt F) ℓ) (ρ : Dev nD → PrngReg)

/-- The queries, keys and values that point `t` projects. -/
def qAt (c : Dev nD) (t : Fin cfg0.N) : Vec F S2048x256 .bf16 := projQ (iblk m c 0 t) (iblk m c 1 t)
def kAt (c : Dev nD) (t : Fin cfg0.N) : Vec F S2048x256 .bf16 := projKV (iblk m c 0 t) (iblk m c 2 t)
def vAt (c : Dev nD) (t : Fin cfg0.N) : Vec F S2048x256 .bf16 := projKV (iblk m c 0 t) (iblk m c 3 t)

/-- The point that projects the chunk of a column of the attention. -/
def chunkPt (y : S2048x2048.Idx) : Fin cfg0.N := ⟨(y 1).val / 256, by rw [show cfg0.N = 17 from N_0]; have := idx2_lt1 y; omega⟩

/-- The whole attention: every column from the queries, keys and values of its chunk. -/
def attnAll (c : Dev nD) : Vec F S2048x2048 .bf16 := fun y =>
  attendAll (qAt m c (chunkPt y)) (kAt m c (chunkPt y)) (vAt m c (chunkPt y)) (inChunk y)

/-- What is known of the scratch before point `t`: the chunk projected last, and the attention of every chunk attended. -/
def Inv (c : Dev nD) (t : Nat) (a : Vec F S2048x2048 .bf16) (q k v : Vec F S2048x256 .bf16) : Prop :=
  (∀ s : Fin cfg0.N, s.val + 1 = t → s.val < 8 → q = qAt m c s ∧ k = kAt m c s ∧ v = vAt m c s)
    ∧ ∀ y : S2048x2048.Idx, (y 1).val / 256 + 2 ≤ t → a y = attnAll m c y

theorem inv_zero (c : Dev nD) (a : Vec F S2048x2048 .bf16) (q k v : Vec F S2048x256 .bf16) : Inv m c 0 a q k v :=
  ⟨fun _ h => absurd h (Nat.succ_ne_zero _), fun _ h => absurd h (by omega)⟩

/-- After the first point. -/
theorem inv_first (c : Dev nD) (t : Fin cfg0.N) (ht : t.val = 0) (a : Vec F S2048x2048 .bf16) :
    Inv m c (t.val + 1) a (qAt m c t) (kAt m c t) (vAt m c t) :=
  ⟨fun s hs _ => by rw [show s = t from Fin.ext (by omega)]; exact ⟨rfl, rfl, rfl⟩, fun _ h => absurd h (by omega)⟩

/-- The attention after a point that attends. -/
theorem inv_attend (c : Dev nD) (t : Fin cfg0.N) (h1 : 1 ≤ t.val) (h8 : t.val ≤ 8) (off : Fin 8 → Fin 2 → Fin 2 → Nat)
    (inb : ∀ n h a, off n h a + S256x128.size a ≤ S2048x2048.size a)
    (hoff : ∀ n h, off n h = ![256 * n.val, 256 * prevChunk (grid0.coords t) + 128 * h.val])
    (a : Vec F S2048x2048 .bf16) (q k v : Vec F S2048x256 .bf16) (hI : Inv m c t.val a q k v)
    (y : S2048x2048.Idx) (hy : (y 1).val / 256 + 2 ≤ t.val + 1) :
    over (attnStores off inb q k v) a y = attnAll m c y := by
  rw [prevChunk_eq t h1] at hoff
  by_cases hc : (y 1).val / 256 = t.val - 1
  · rw [over_attn_in off inb _ hoff q k v a y hc]
    obtain ⟨rfl, rfl, rfl⟩ := hI.1 (chunkPt y) (by show (y 1).val / 256 + 1 = t.val; omega) (by show (y 1).val / 256 < 8; omega)
    rfl
  · rw [over_attn_out off inb _ hoff q k v a y hc]
    exact hI.2 y (by omega)

/-- After a point that attends and projects. -/
theorem inv_mid (c : Dev nD) (t : Fin cfg0.N) (h1 : 1 ≤ t.val) (h8 : t.val < 8) (off : Fin 8 → Fin 2 → Fin 2 → Nat)
    (inb : ∀ n h a, off n h a + S256x128.size a ≤ S2048x2048.size a)
    (hoff : ∀ n h, off n h = ![256 * n.val, 256 * prevChunk (grid0.coords t) + 128 * h.val])
    (a : Vec F S2048x2048 .bf16) (q k v : Vec F S2048x256 .bf16) (hI : Inv m c t.val a q k v) :
    Inv m c (t.val + 1) (over (attnStores off inb q k v) a) (qAt m c t) (kAt m c t) (vAt m c t) :=
  ⟨fun s hs _ => by rw [show s = t from Fin.ext (by omega)]; exact ⟨rfl, rfl, rfl⟩,
    fun y hy => inv_attend m c t h1 (by omega) off inb hoff a q k v hI y hy⟩

/-- After the point that attends the last chunk. -/
theorem inv_last (c : Dev nD) (t : Fin cfg0.N) (h8 : t.val = 8) (off : Fin 8 → Fin 2 → Fin 2 → Nat)
    (inb : ∀ n h a, off n h a + S256x128.size a ≤ S2048x2048.size a)
    (hoff : ∀ n h, off n h = ![256 * n.val, 256 * prevChunk (grid0.coords t) + 128 * h.val])
    (a : Vec F S2048x2048 .bf16) (q k v : Vec F S2048x256 .bf16) (hI : Inv m c t.val a q k v) :
    Inv m c (t.val + 1) (over (attnStores off inb q k v) a) q k v :=
  ⟨fun s hs h => absurd h (by omega), fun y hy => inv_attend m c t (by omega) (by omega) off inb hoff a q k v hI y hy⟩

/-- Past the last chunk the attention buffer holds the whole attention. -/
theorem inv_all (c : Dev nD) (t : Fin cfg0.N) (h8 : 8 < t.val) (a : Vec F S2048x2048 .bf16) (q k v : Vec F S2048x256 .bf16)
    (hI : Inv m c t.val a q k v) : a = attnAll m c :=
  funext fun y => hI.2 y (by have := idx2_lt1 y; omega)

theorem inv_out (c : Dev nD) (t : Fin cfg0.N) (h8 : 8 < t.val) (q k v : Vec F S2048x256 .bf16) :
    Inv m c (t.val + 1) (attnAll m c) q k v :=
  ⟨fun s hs h => absurd h (by omega), fun _ _ => rfl⟩

/-! ## The pipeline's proof data -/

/-- The scratch at contents of which `Inv` holds. -/
def scratchAt (c : Dev nD) (t : Nat) : sProp 𝕄 :=
  iprop(∃ a : Vec F S2048x2048 .bf16, ∃ q : Vec F S2048x256 .bf16, ∃ k : Vec F S2048x256 .bf16, ∃ v : Vec F S2048x256 .bf16,
    ⌜Inv m c t a q k v⌝ ∗ owns (c : Thread nD τ) (Memref.whole cc0_scratch0) fullShare a ∗ owns (c : Thread nD τ) (Memref.whole cc0_scratch1) fullShare q
      ∗ owns (c : Thread nD τ) (Memref.whole cc0_scratch2) fullShare k ∗ owns (c : Thread nD τ) (Memref.whole cc0_scratch3) fullShare v)

/-- The proof data of the pipeline on core `c`: the arrays as the region finds them; after the body at point `t` each
    input's buffer at its block and the output's at the attention against the block of the output weights (at a point
    that stores no output its buffer is described by nobody); the invariant: what is known of the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay6 (iblk m c 4 t) (attnAll m c)
  Φ t := iprop(scratchAt m c t.val ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay6 (iblk m c 4 t) (attnAll m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`. -/
def bodyPre (c : Dev nD) (t : Fin cfg0.N) : sProp 𝕄 :=
  iprop(iprop(scratchAt m c t.val ∗ ∃ r, prngReg c r) ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body leaves of the output's buffer: at a point that stores no output, whatever it held. -/
def leaves5 (c : Dev nD) (t : Fin cfg0.N) : sProp 𝕄 :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

theorem leaves5_early (c : Dev nD) (t : Fin cfg0.N) (h : t.val ≤ 8) :
    leaves5 m c t = iprop(∃ d, owns (c : Thread nD τ) (st0_5 t) fullShare ((dats m 0 c).before 5 t d)) := by
  unfold leaves5; rw [idle5_iff, decide_eq_true h, flush5_early t h]
theorem leaves5_late (c : Dev nD) (t : Fin cfg0.N) (h : 8 < t.val) :
    leaves5 m c t = owns (c : Thread nD τ) (st0_5 t) fullShare (k0_pay6 (iblk m c 4 t) (attnAll m c)) := by
  unfold leaves5; rw [idle5_iff, decide_eq_false (by omega), after0_5]

/-- What the body returns. -/
def bodyPost (c : Dev nD) (t : Fin cfg0.N) : sProp 𝕄 :=
  iprop(iprop(scratchAt m c (t.val + 1) ∗ ∃ r, prngReg c r) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ leaves5 m c t)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  unfold scratchAt
  iintro ⟨⟨⟨%a, %q, %k, %v, %hI, Ha, Hq, Hk, Hv⟩, Hr⟩, Ho, ⟨%d0, H0⟩, ⟨%d1, H1⟩, ⟨%d2, H2⟩, ⟨%d3, H3⟩, ⟨%d4, H4⟩, H5⟩
  have ht : t.val < 17 := lt_of_lt_of_eq t.isLt N_0
  by_cases h0 : t.val = 0
  · rw [leaves5_early m c t (by omega)]
    iapply (body_first c Set.univ (grid0.coords t) _ _ _ _ _ _ _ _ _ _ _ _ _ _ _ _ _ _ _ _
      ((cond1_iff t).mpr h0) (by rw [cond2_iff]; omega) (by rw [cond3_iff]; omega) (by rw [cond4_iff]; omega)
      (iblk m c 0 t) (iblk m c 1 t) (iblk m c 2 t) (iblk m c 3 t) _)
    isplitl [H0]; · iexact H0
    isplitl [H1]; · iexact H1
    isplitl [H2]; · iexact H2
    isplitl [H3]; · iexact H3
    isplitl [Hq]; · iexists _; iexact Hq
    isplitl [Hk]; · iexists _; iexact Hk
    isplitl [Hv]; · iexists _; iexact Hv
    iintro ⟨H0, H1, H2, H3, Hq, Hk, Hv⟩
    isplitl [Ha Hq Hk Hv Hr]
    · isplitl [Ha Hq Hk Hv]
      · iexists a, (qAt m c t), (kAt m c t), (vAt m c t)
        isplitr; · ipureintro; exact inv_first m c t h0 a
        isplitl [Ha]; · iexact Ha
        isplitl [Hq]; · iexact Hq
        isplitl [Hk]; · iexact Hk
        iexact Hv
      · iexact Hr
    isplitl [Ho]; · iexact Ho
    isplitl [H0]; · iexact H0
    isplitl [H1]; · iexact H1
    isplitl [H2]; · iexact H2
    isplitl [H3]; · iexact H3
    isplitl [H4]; · iexact H4
    iexact H5
  by_cases h7 : t.val < 8
  · rw [leaves5_early m c t (by omega)]
    have hc2 : k0_cond2 (grid0.coords t) = 1#1 := (cond2_iff t).mpr ⟨by omega, h7⟩
    iapply (body_mid c Set.univ (grid0.coords t) _ _ _ _ _ _ _ _ _ _ _ _ _ _ _ _ _ _ _ _
      (by rw [cond1_iff]; exact h0) hc2 (by rw [cond3_iff]; omega) (by rw [cond4_iff]; omega)
      (iblk m c 0 t) (iblk m c 1 t) (iblk m c 2 t) (iblk m c 3 t) a q k v _)
    isplitl [H0]; · iexact H0
    isplitl [H1]; · iexact H1
    isplitl [H2]; · iexact H2
    isplitl [H3]; · iexact H3
    isplitl [Ha]; · iexact Ha
    isplitl [Hq]; · iexact Hq
    isplitl [Hk]; · iexact Hk
    isplitl [Hv]; · iexact Hv
    iintro ⟨H0, H1, H2, H3, Ha, Hq, Hk, Hv⟩
    isplitl [Ha Hq Hk Hv Hr]
    · isplitl [Ha Hq Hk Hv]
      · iexists _, (qAt m c t), (kAt m c t), (vAt m c t)
        isplitr
        swap
        · isplitl [Ha]; · iexact Ha
          isplitl [Hq]; · iexact Hq
          isplitl [Hk]; · iexact Hk
          iexact Hv
        ipureintro; exact inv_mid m c t (by omega) h7 _ (offMid_inb _ hc2) (offMid_eq _) a q k v hI
      · iexact Hr
    isplitl [Ho]; · iexact Ho
    isplitl [H0]; · iexact H0
    isplitl [H1]; · iexact H1
    isplitl [H2]; · iexact H2
    isplitl [H3]; · iexact H3
    isplitl [H4]; · iexact H4
    iexact H5
  by_cases h8 : t.val = 8
  · rw [leaves5_early m c t (by omega)]
    have hc3 : k0_cond3 (grid0.coords t) = 1#1 := (cond3_iff t).mpr h8
    iapply (body_last c Set.univ (grid0.coords t) _ _ _ _ _ _ _ _ _ _ _ _ _ _ _ _ _ _ _ _
      (by rw [cond1_iff]; exact h0) (by rw [cond2_iff]; omega) hc3 (by rw [cond4_iff]; omega)
      a q k v _)
    isplitl [Ha]; · iexact Ha
    isplitl [Hq]; · iexact Hq
    isplitl [Hk]; · iexact Hk
    isplitl [Hv]; · iexact Hv
    iintro ⟨Ha, Hq, Hk, Hv⟩
    isplitl [Ha Hq Hk Hv Hr]
    · isplitl [Ha Hq Hk Hv]
      · iexists _, q, k, v
        isplitr
        swap
        · isplitl [Ha]; · iexact Ha
          isplitl [Hq]; · iexact Hq
          isplitl [Hk]; · iexact Hk
          iexact Hv
        ipureintro; exact inv_last m c t h8 _ (offLast_inb _ hc3) (offLast_eq _) a q k v hI
      · iexact Hr
    isplitl [Ho]; · iexact Ho
    isplitl [H0]; · iexact H0
    isplitl [H1]; · iexact H1
    isplitl [H2]; · iexact H2
    isplitl [H3]; · iexact H3
    isplitl [H4]; · iexact H4
    iexact H5
  · have h9 : 8 < t.val := by omega
    rw [leaves5_late m c t h9]
    obtain rfl := inv_all m c t h9 a q k v hI
    iapply (body_out c Set.univ (grid0.coords t) _ _ _ _ _ _ _ _ _ _ _ _ _ _ _ _ _ _ _ _
      (by rw [cond1_iff]; exact h0) (by rw [cond2_iff]; omega) (by rw [cond3_iff]; omega) ((cond4_iff t).mpr h9)
      (iblk m c 4 t) (attnAll m c) _)
    isplitl [H4]; · iexact H4
    isplitl [H5]; · icases H5 with ⟨%d5, H5⟩; iexists _; iexact H5
    isplitl [Ha]; · iexact Ha
    iintro ⟨H4, H5, Ha⟩
    isplitl [Ha Hq Hk Hv Hr]
    · isplitl [Ha Hq Hk Hv]
      · iexists (attnAll m c), q, k, v
        isplitr; · ipureintro; exact inv_out m c t h9 q k v
        isplitl [Ha]; · iexact Ha
        isplitl [Hq]; · iexact Hq
        isplitl [Hk]; · iexact Hk
        iexact Hv
      · iexact Hr
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The region's scratch, at any contents, is the invariant before the first point, -/
theorem phi_in (c : Dev nD) : Pipeline.ΦA spec0 c ⊢ (dats (F := F) m 0 c).Φ 0 := by
  show Pipeline.ΦA spec0 c ⊢ iprop(scratchAt m c 0 ∗ ∃ r, prngReg c r)
  unfold Pipeline.ΦA scratchAt
  rw [scopedRest0_eq]
  simp only [owns_whole]
  iintro ⟨⟨⟨%a, Ha⟩, ⟨%q, Hq⟩, ⟨%k, Hk⟩, ⟨%v, Hv⟩⟩, Hr⟩
  isplitr [Hr]
  · iexists a, q, k, v
    isplitr; · ipureintro; exact inv_zero m c a q k v
    isplitl [Ha]; · iexact Ha
    isplitl [Hq]; · iexact Hq
    isplitl [Hk]; · iexact Hk
    iexact Hv
  · iexact Hr

/-- and the invariant after the last point is that scratch again. -/
theorem phi_out (c : Dev nD) : (dats (F := F) m 0 c).Φ (Fin.last cfg0.N) ⊢ Pipeline.ΦA spec0 c := by
  show iprop(scratchAt m c cfg0.N ∗ ∃ r, prngReg c r) ⊢ Pipeline.ΦA spec0 c
  unfold Pipeline.ΦA scratchAt
  rw [scopedRest0_eq]
  simp only [owns_whole]
  iintro ⟨⟨%a, %q, %k, %v, %hI, Ha, Hq, Hk, Hv⟩, Hr⟩
  isplitr [Hr]
  · isplitl [Ha]; · iexists a; iexact Ha
    isplitl [Hq]; · iexists q; iexact Hq
    isplitl [Hk]; · iexists k; iexact Hk
    iexists v; iexact Hv
  · iexact Hr

set_option backward.isDefEq.respectTransparency.types false in
/-- The launch: every weakly fair execution of @main terminates, with every array of the pipeline at what the proof data
    compute, every other unscoped buffer at what the lines after the region leave, and every semaphore counter at zero. -/
theorem run_main_quiescent : θ_run defs (onTc (τ := τ) (main (F := F))) (s₀ m ρ)
    (fun r => (FramePost cfgs (dats m) 0 (afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

theorem run_main : θ_run defs (onTc (τ := τ) (main (F := F))) (s₀ m ρ) (FramePost cfgs (dats m) 0 (afterTail₀ cfgs (dats m) 0 (V0 m) [hostOps1])) :=
  (θ_run defs _ _).mono (fun _ h => h.1) (run_main_quiescent m ρ)

/-- The frame: every argument array ends as it was, and every semaphore counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Softmax.lean ====
module

public import Idealize.ShloMosaic.PureOps.Ideal

@[expose] public section

noncomputable section

/-! The softmax-weighted sum, two ways over the extended reals: from the exponentials of the scores less the greatest, each
    over their sum; and from powers of two of the clamped scores, the whole sum over theirs. -/

namespace Cert.Softmax

open Idealize.ShloMosaic

/-- The root of 128 divides as its reciprocal multiplies. -/
def inv : ℝ := 1 / Real.sqrt 128

/-- The scale of the scores in units of log 2. -/
def scale : ℝ := (Real.sqrt 128)⁻¹ * (Real.log 2)⁻¹

theorem sqrt_pos : 0 < Real.sqrt 128 := Real.sqrt_pos.mpr (by norm_num)
theorem log_pos : 0 < Real.log 2 := Real.log_pos (by norm_num)
theorem inv_pos : 0 < inv := one_div_pos.mpr sqrt_pos
theorem scale_pos : 0 < scale := mul_pos (inv_pos_of_pos sqrt_pos) (inv_pos_of_pos log_pos)
where inv_pos_of_pos {x : ℝ} (h : 0 < x) : 0 < x⁻¹ := _root_.inv_pos.mpr h

theorem scale_mul_log : scale * Real.log 2 = inv := by
  unfold scale inv
  have := log_pos.ne'
  field_simp

/-- The logarithm of 2 from below: 2 is at least the 1024th power of 1478/1477. -/
theorem log_two_ge : (0.6928 : ℝ) ≤ Real.log 2 := by
  have h1 : ((((1478 : ℝ) / 1477) ^ 32) ^ 32) ≤ 2 := by norm_num
  have h2 : (1 : ℝ) - (1478 / 1477 : ℝ)⁻¹ ≤ Real.log (1478 / 1477) := Real.one_sub_inv_le_log_of_pos (by norm_num)
  have h3 : Real.log ((((1478 : ℝ) / 1477) ^ 32) ^ 32) = 32 * (32 * Real.log (1478 / 1477)) := by
    rw [Real.log_pow, Real.log_pow]; norm_num
  have h4 : Real.log ((((1478 : ℝ) / 1477) ^ 32) ^ 32) ≤ Real.log 2 := Real.log_le_log (by positivity) h1
  have h5 : (0.6928 : ℝ) ≤ 32 * (32 * (1 - (1478 / 1477 : ℝ)⁻¹)) := by norm_num
  linarith

/-- A score of at most 674 is at most 86 in units of log 2. -/
theorem clamp_le {r : ℝ} (h : r ≤ 674) : r * scale ≤ 86 := by
  have h1 : (11.3137 : ℝ) ≤ Real.sqrt 128 := Real.le_sqrt_of_sq_le (by norm_num)
  have h2 : (0.6928 : ℝ) ≤ Real.log 2 := log_two_ge
  have h3 : (674 : ℝ) ≤ 86 * (Real.sqrt 128 * Real.log 2) := by nlinarith
  have hp : 0 < Real.sqrt 128 * Real.log 2 := mul_pos sqrt_pos log_pos
  have : r * scale = r / (Real.sqrt 128 * Real.log 2) := by
    unfold scale; rw [div_eq_mul_inv, mul_inv]
  rw [this, div_le_iff₀ hp]; linarith

/-- A positive real multiplies a sum term by term. -/
theorem sum_mul_coe {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.mpr hr) (EReal.coe_ne_top r)]

/-- A sum of reals is a real. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The unnormalised weight of a score. -/
def weight (x : EReal) : ℝ := match x with
  | ⊥ => 0
  | ⊤ => 0
  | (r : ℝ) => Real.exp (r * inv)

theorem weight_nonneg (x : EReal) : 0 ≤ weight x := by
  induction x with
  | bot => exact le_refl _
  | top => exact le_refl _
  | coe r => exact (Real.exp_pos _).le

theorem weight_pos {x : EReal} (hb : x ≠ ⊥) (ht : x ≤ ((674 : ℝ) : EReal)) : 0 < weight x := by
  induction x with
  | bot => exact absurd rfl hb
  | top => exact absurd (top_le_iff.mp ht) (EReal.coe_ne_top _)
  | coe r => exact Real.exp_pos _

/-- The power of two of a clamped score in units of log 2 is its weight. -/
theorem exp2_clamp {x : EReal} (ht : x ≤ ((674 : ℝ) : EReal)) :
    Ideal.exp2 (min (x * (scale : EReal)) ((86 : ℝ) : EReal)) = (weight x : EReal) := by
  induction x with
  | bot =>
    rw [EReal.bot_mul_coe_of_pos scale_pos, min_eq_left bot_le]; rfl
  | top => exact absurd (top_le_iff.mp ht) (EReal.coe_ne_top _)
  | coe r =>
    rw [← EReal.coe_mul, min_eq_left (EReal.coe_le_coe_iff.mpr (clamp_le (EReal.coe_le_coe_iff.mp ht))), Ideal.exp2_coe]
    show ((Real.rpow 2 (r * scale) : ℝ) : EReal) = ((Real.exp (r * inv) : ℝ) : EReal)
    congr 1
    show (2 : ℝ) ^ (r * scale) = _
    rw [Real.rpow_def_of_pos (by norm_num), ← scale_mul_log]
    congr 1; ring

/-- The exponential of a score less a real is its weight times the real's. -/
theorem exp_sub {x : EReal} (ht : x ≤ ((674 : ℝ) : EReal)) (μ : ℝ) :
    Ideal.exp (x * (inv : EReal) - (μ : EReal)) = ((weight x * Real.exp (-μ) : ℝ) : EReal) := by
  induction x with
  | bot =>
    rw [EReal.bot_mul_coe_of_pos inv_pos, EReal.bot_sub]
    show (0 : EReal) = (((0 : ℝ) * _ : ℝ) : EReal)
    simp
  | top => exact absurd (top_le_iff.mp ht) (EReal.coe_ne_top _)
  | coe r =>
    rw [← EReal.coe_mul, ← EReal.coe_sub, Ideal.exp_coe]
    show _ = ((Real.exp (r * inv) * Real.exp (-μ) : ℝ) : EReal)
    rw [← Real.exp_add, sub_eq_add_neg]

variable {n : Nat}

/-- The greatest scaled score of scores in range is a real. -/
theorem greatest_real (S : Fin n → EReal) (hle : ∀ s, S s ≤ ((674 : ℝ) : EReal)) (hbot : ∃ s, S s ≠ ⊥) :
    ∃ μ : ℝ, max ⊥ ((Finset.univ : Finset (Fin n)).fold max ⊥ fun s => S s * (inv : EReal)) = (μ : EReal) := by
  rw [max_eq_right bot_le]
  have hge := hbot
  obtain ⟨s, hs⟩ := hbot
  set M := (Finset.univ : Finset (Fin n)).fold max ⊥ fun s => S s * (inv : EReal) with hM
  have h1 : M ≠ ⊤ := by
    have : M ≤ ((674 * inv : ℝ) : EReal) := by
      rw [hM, Finset.fold_max_le]
      refine ⟨bot_le, fun s _ => ?_⟩
      rw [EReal.coe_mul]
      exact mul_le_mul_of_nonneg_right (hle s) (EReal.coe_nonneg.mpr inv_pos.le)
    exact ne_top_of_le_ne_top (EReal.coe_ne_top _) this
  have h2 : M ≠ ⊥ := by
    have h3 : S s * (inv : EReal) ≤ M := by
      rw [hM, Finset.le_fold_max]; exact Or.inr ⟨s, Finset.mem_univ _, le_refl _⟩
    have h4 : S s * (inv : EReal) ≠ ⊥ := by
      have ht := hle s
      revert hs ht
      induction S s with
      | bot => exact fun h => absurd rfl h
      | top => exact fun _ h => absurd (top_le_iff.mp h) (EReal.coe_ne_top _)
      | coe r => intro _ _; rw [← EReal.coe_mul]; exact EReal.coe_ne_bot _
    exact fun h => h4 (le_bot_iff.mp (h ▸ h3))
  exact ⟨M.toReal, (EReal.coe_toReal h1 h2).symm⟩

/-- The softmax of scores in range, mixing the values `V`, is the clamped powers of two mixing them over their sum. -/
theorem softmax_eq (S V : Fin n → EReal) (hle : ∀ s, S s ≤ ((674 : ℝ) : EReal)) (hbot : ∃ s, S s ≠ ⊥) (M : EReal)
    (hM : M = max ⊥ ((Finset.univ : Finset (Fin n)).fold max ⊥ fun s => Ideal.div (S s) ((Real.sqrt 128 : ℝ) : EReal))) :
    ∑ s, V s * Ideal.div (Ideal.exp (Ideal.div (S s) ((Real.sqrt 128 : ℝ) : EReal) - M))
        (∑ s', Ideal.exp (Ideal.div (S s') ((Real.sqrt 128 : ℝ) : EReal) - M))
      = (∑ s, Ideal.exp2 (min (S s * (scale : EReal)) ((86 : ℝ) : EReal)) * V s)
        * Ideal.div 1 (∑ s, Ideal.exp2 (min (S s * (scale : EReal)) ((86 : ℝ) : EReal))) := by
  have hdiv : ∀ s, Ideal.div (S s) ((Real.sqrt 128 : ℝ) : EReal) = S s * (inv : EReal) := fun s =>
    Ideal.div_coe sqrt_pos.ne' _
  simp only [hdiv] at hM ⊢
  obtain ⟨μ, hμ⟩ := greatest_real S hle hbot
  rw [hμ] at hM
  subst hM
  simp only [fun s => exp_sub (hle s) μ, fun s => exp2_clamp (hle s), sum_coe]
  have hL : 0 < ∑ s, weight (S s) := by
    obtain ⟨s, hs⟩ := hbot
    exact Finset.sum_pos' (fun s _ => weight_nonneg _) ⟨s, Finset.mem_univ _, weight_pos hs (hle s)⟩
  rw [← Finset.sum_mul]
  set L := ∑ s, weight (S s) with hLdef
  have hLe : L * Real.exp (-μ) ≠ 0 := (mul_pos hL (Real.exp_pos _)).ne'
  rw [Ideal.div_coe hL.ne', one_mul, sum_mul_coe _ _ (one_div_pos.mpr hL).le]
  refine Finset.sum_congr rfl fun s _ => ?_
  rw [Ideal.div_coe hLe, ← EReal.coe_mul, mul_comm (weight (S s) : EReal) (V s), mul_assoc (V s), ← EReal.coe_mul (weight (S s))]
  congr 2
  have := (Real.exp_pos (-μ)).ne'
  have := hL.ne'
  field_simp

/-- A scale of the queries scales the score. -/
theorem score_scaled {ι : Type*} (s : Finset ι) (q k : ι → EReal) : ∑ d ∈ s, q d * (scale : EReal) * k d = (∑ d ∈ s, q d * k d) * (scale : EReal) := by
  rw [sum_mul_coe _ _ scale_pos.le]
  exact Finset.sum_congr rfl fun d _ => mul_right_comm _ _ _

/-- A sum over two blocks that is zero off the block of `r` is the sum over that block. -/
theorem sum_block (f : Fin 256 → EReal) (r : Fin 256) :
    (∑ s : Fin 256, if r.val / 128 = s.val / 128 then f s else 0)
      = ∑ s : Fin 128, f ⟨128 * (r.val / 128) + s.val, by have := r.isLt; have := s.isLt; omega⟩ := by
  rw [← Finset.sum_filter]
  symm
  refine Finset.sum_nbij (fun s => ⟨128 * (r.val / 128) + s.val, by have := r.isLt; have := s.isLt; omega⟩) ?_ ?_ ?_ ?_
  · intro s _
    have := s.isLt
    simp only [Finset.mem_filter, Finset.mem_univ, true_and]
    omega
  · intro s _ s' _ h
    have := congrArg Fin.val h
    simp only at this
    exact Fin.ext (by omega)
  · intro s hs
    have hs : r.val / 128 = s.val / 128 := by simpa using hs
    exact ⟨⟨s.val % 128, Nat.mod_lt _ (by decide)⟩, Finset.mem_coe.mpr (Finset.mem_univ _), Fin.ext (by simp only; omega)⟩
  · intro s _; rfl

/-- The kernel's form of the softmax-weighted sum: over two blocks, the weights off the query's own block zero. -/
theorem masked_eq (S V : Fin 256 → EReal) (r : Fin 256) (S' V' : Fin 128 → EReal)
    (hS : ∀ s : Fin 128, S ⟨128 * (r.val / 128) + s.val, by have := r.isLt; have := s.isLt; omega⟩ = S' s * (scale : EReal))
    (hV : ∀ s : Fin 128, V ⟨128 * (r.val / 128) + s.val, by have := r.isLt; have := s.isLt; omega⟩ = V' s)
    (hle : ∀ s, S' s ≤ ((674 : ℝ) : EReal)) (hbot : ∃ s, S' s ≠ ⊥) (M : EReal)
    (hM : M = max ⊥ ((Finset.univ : Finset (Fin 128)).fold max ⊥ fun s => Ideal.div (S' s) ((Real.sqrt 128 : ℝ) : EReal))) :
    (∑ s, (if r.val / 128 = s.val / 128 then Ideal.exp2 (min (S s) ((86 : ℝ) : EReal)) else 0) * V s)
        * Ideal.div 1 (∑ s, if r.val / 128 = s.val / 128 then Ideal.exp2 (min (S s) ((86 : ℝ) : EReal)) else 0)
      = ∑ s, V' s * Ideal.div (Ideal.exp (Ideal.div (S' s) ((Real.sqrt 128 : ℝ) : EReal) - M))
        (∑ s', Ideal.exp (Ideal.div (S' s') ((Real.sqrt 128 : ℝ) : EReal) - M)) := by
  rw [softmax_eq S' V' hle hbot M hM]
  simp only [ite_mul, zero_mul]
  rw [sum_block (fun s => Ideal.exp2 (min (S s) ((86 : ℝ) : EReal)) * V s) r, sum_block (fun s => Ideal.exp2 (min (S s) ((86 : ℝ) : EReal))) r]
  simp only [hS, hV]

end Cert.Softmax
-- ==== Proof.KernelIdealTiles.lean ====
module

public import proofs.«01_k».proof.Proof.KernelIdealRun
public import proofs.«01_k».proof.Proof.Softmax
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## The kernel's tiles at an index, over the extended reals -/

/-- The kernel's named constant is the scale of the scores in units of log 2. -/
theorem named_scale : Named.named (F := Ideal) κ "log2e_inv_sqrt_d" (φ := .f32) 0x3E0293EE#32 = ((Softmax.scale : ℝ) : EReal) :=
  IdealRules.named_const.ideal_named_scalar _ _ _ _ rfl

/-- The clamp is at 86. -/
theorem ofBits_86 : Ideal.ofBits .f32 0x42AC0000#32 = ((86 : ℝ) : EReal) := by
  simp [Ideal.ofBits, Ideal.ieee, -EReal.coe_mul]; norm_num

/-- The kernel's floor quotient by 128 of a row or a column of two blocks, as its word arithmetic computes it. -/
def floorQuot (s : Fin 256) : BitVec 32 :=
  Scalar.select (IntOp.andi (IntOp.cmpi .ne (IntOp.subi (BitVec.setWidth 32 (IntOp.cmpi .sgt (BitVec.ofNat 32 s.val) 0#32)) (BitVec.setWidth 32 (IntOp.cmpi .slt (BitVec.ofNat 32 s.val) 0#32)))
      (Scalar.subi (Scalar.extui (Scalar.cmpi .sgt 128#32 0#32)) (Scalar.extui (Scalar.cmpi .slt 128#32 0#32))))
    (IntOp.cmpi .ne (IntOp.remsi .vector (BitVec.ofNat 32 s.val) 128#32) 0#32))
    (IntOp.subi (IntOp.divsi .vector (BitVec.ofNat 32 s.val) 128#32) 1#32) (IntOp.divsi .vector (BitVec.ofNat 32 s.val) 128#32)

/-- The floor quotient is the block's number. -/
theorem floorQuot_eq : ∀ s : Fin 256, floorQuot s = BitVec.ofNat 32 (s.val / 128) := by
  unfold floorQuot; decide +kernel

/-- The mask is one where row and column lie in one block. -/
theorem mask_apply (r s : Fin 256) : mask (ix2 r s) = if r.val / 128 = s.val / 128 then 1#1 else 0#1 := by
  have h : mask (ix2 r s) = IntOp.cmpi .eq (floorQuot r) (floorQuot s) := by
    pointwise [mask, k0_pay19, k0_pay20, k0_pay21, k0_pay22]
    rfl
  rw [h, floorQuot_eq, floorQuot_eq]
  have key : ∀ a b : Fin 2, IntOp.cmpi .eq (BitVec.ofNat 32 a.val) (BitVec.ofNat 32 b.val) = if a.val = b.val then 1#1 else 0#1 := by decide +kernel
  exact key ⟨r.val / 128, by have := r.isLt; omega⟩ ⟨s.val / 128, by have := s.isLt; omega⟩

/-- The weight of a row and a column of two blocks. -/
theorem weights_apply (qs ks : FVec Ideal S256x128 .bf16) (r s : Fin 256) :
    weights (F := Ideal) qs ks (ix2 r s)
      = if r.val / 128 = s.val / 128 then Ideal.exp2 (min (∑ d : Fin 128, qs (ix2 r d) * ks (ix2 s d)) ((86 : ℝ) : EReal)) else (0 : EReal) := by
  pointwise [weights]
  rw [mask_apply, ofBits_86]
  by_cases h : r.val / 128 = s.val / 128
  · rw [if_pos h, if_pos h]; rfl
  · rw [if_neg h, if_neg h]; rfl

/-- The mixed values of a row and a column of a head. -/
theorem mix_apply (w : FVec Ideal S256x256 .f32) (vs : FVec Ideal S256x128 .bf16) (r : Fin 256) (d : Fin 128) :
    mix (F := Ideal) w vs (ix2 r d) = (∑ s : Fin 256, w (ix2 r s) * vs (ix2 s d)) * Ideal.div 1 (∑ s : Fin 256, w (ix2 r s)) := by
  pointwise [mix]

/-- An element of the attention of pair of blocks `n` and head `h` of a chunk. -/
theorem attendBlk_apply (n : Fin 8) (h : Fin 2) (q k v : Vec Ideal S2048x256 .bf16) (r : Fin 256) (d : Fin 128) :
    attendBlk (F := Ideal) n h q k v (ix2 r d)
      = (∑ s : Fin 256, (if r.val / 128 = s.val / 128 then Ideal.exp2 (min (∑ d : Fin 128,
            q (ix2 ⟨256 * n.val + r.val, by omega⟩ ⟨128 * h.val + d.val, by omega⟩) * k (ix2 ⟨256 * n.val + s.val, by omega⟩ ⟨128 * h.val + d.val, by omega⟩))
            ((86 : ℝ) : EReal)) else (0 : EReal)) * v (ix2 ⟨256 * n.val + s.val, by omega⟩ ⟨128 * h.val + d.val, by omega⟩))
        * Ideal.div 1 (∑ s : Fin 256, (if r.val / 128 = s.val / 128 then Ideal.exp2 (min (∑ d : Fin 128,
            q (ix2 ⟨256 * n.val + r.val, by omega⟩ ⟨128 * h.val + d.val, by omega⟩) * k (ix2 ⟨256 * n.val + s.val, by omega⟩ ⟨128 * h.val + d.val, by omega⟩))
            ((86 : ℝ) : EReal)) else (0 : EReal))) := by
  unfold attendBlk attendOf
  rw [mix_apply]
  simp only [weights_apply]
  have e : ∀ (u : Vec Ideal S2048x256 .bf16) (s : Fin 256) (d : Fin 128),
      extractStridedSlice S256x128 ![256 * n.val, 128 * h.val] u (blk_slices n h) (ix2 s d)
        = u (ix2 ⟨256 * n.val + s.val, by omega⟩ ⟨128 * h.val + d.val, by omega⟩) := by
    intro u s d
    pointwise
  simp only [e]

/-! ## The projections -/

/-- An element of a half chunk of queries. -/
theorem pay11_apply (w : Vec Ideal S256x2048 .f32) (x : Vec Ideal S1024x2048 .f32) (t : Fin 1024) (d : Fin 256) :
    k0_pay11 (F := Ideal) w x (ix2 t d) = (∑ i : Fin 2048, x (ix2 t i) * w (ix2 d i)) * ((Softmax.scale : ℝ) : EReal) := by
  have h10 : ∀ i, k0_pay10 (F := Ideal) x (ix2 t i) = x (ix2 t i) := fun i => by pointwise [k0_pay10]
  have h7 : ∀ i, k0_pay7 (F := Ideal) w (ix2 d i) = w (ix2 d i) := fun i => by pointwise [k0_pay7]
  pointwise [k0_pay11]
  rw [named_scale]
  simp only [h10, h7]

/-- An element of a half chunk of keys or of values. -/
theorem pay12_apply (w : Vec Ideal S256x2048 .f32) (x : Vec Ideal S1024x2048 .f32) (t : Fin 1024) (d : Fin 256) :
    k0_pay12 (F := Ideal) w x (ix2 t d) = ∑ i : Fin 2048, x (ix2 t i) * w (ix2 d i) := by
  have h10 : ∀ i, k0_pay10 (F := Ideal) x (ix2 t i) = x (ix2 t i) := fun i => by pointwise [k0_pay10]
  have h8 : ∀ i, k0_pay8 (F := Ideal) w (ix2 d i) = w (ix2 d i) := fun i => by pointwise [k0_pay8]
  pointwise [k0_pay12]
  simp only [h10, h8]

/-- A chunk stored as two halves, at an index. -/
theorem halves_apply (p q : Vec Ideal S1024x256 .bf16) (G : Fin 2048 → Fin 256 → EReal)
    (hp : ∀ (t : Fin 1024) d, p (ix2 t d) = G ⟨1024 + t.val, by omega⟩ d) (hq : ∀ (t : Fin 1024) d, q (ix2 t d) = G ⟨t.val, by omega⟩ d)
    (t : Fin 2048) (d : Fin 256) :
    View.canon (Val := Elt Ideal) ([⟨Rect.unit (s := S2048x256) ![1024, 0] S1024x256.size inb_S2048x256_S1024x256_1024_0, p⟩,
      ⟨Rect.unit (s := S2048x256) ![0, 0] S1024x256.size inb_S2048x256_S1024x256_0_0, q⟩] : List (View.Piece (Elt Ideal) S2048x256 .bf16)) (ix2 t d) = G t d := by
  by_cases h : 1024 ≤ t.val
  · have e : (ix2 t d : S2048x256.Idx) = (Rect.unit (s := S2048x256) ![1024, 0] S1024x256.size inb_S2048x256_S1024x256_1024_0).emb (ix2 ⟨t.val - 1024, by omega⟩ d : S1024x256.Idx) := by
      funext a
      match a with
      | ⟨0, _⟩ => exact Fin.ext (by rw [Rect.emb_apply]; simp [Rect.off_unit]; omega)
      | ⟨1, _⟩ => exact Fin.ext (by rw [Rect.emb_apply]; simp [Rect.off_unit])
    rw [e, View.canon_cons_emb, hp]
    congr 1
    exact Fin.ext (by show 1024 + (t.val - 1024) = t.val; omega)
  · rw [View.canon_cons_of_not_mem]
    · have e : (ix2 t d : S2048x256.Idx) = (Rect.unit (s := S2048x256) ![0, 0] S1024x256.size inb_S2048x256_S1024x256_0_0).emb (ix2 ⟨t.val, by omega⟩ d : S1024x256.Idx) := by
        funext a
        match a with
        | ⟨0, _⟩ => exact Fin.ext (by rw [Rect.emb_apply]; simp [Rect.off_unit])
        | ⟨1, _⟩ => exact Fin.ext (by rw [Rect.emb_apply]; simp [Rect.off_unit])
      rw [e, View.canon_cons_emb, hq]
    · intro hm
      rw [Rect.mem_set_unit] at hm
      exact h (hm 0).1

/-- A load of half the rows, at an index. -/
theorem ld_rows (x : Vec Ideal S2048x2048 .f32) (o : Nat) (inb : ∀ a, (![o, 0] : Fin 2 → Nat) a + S1024x2048.size a ≤ S2048x2048.size a) (ho : o ≤ 1024)
    (t : Fin 1024) (i : Fin 2048) :
    View.ld x (Rect.unit (s := S2048x2048) ![o, 0] S1024x2048.size inb) (ix2 t i) = x (ix2 ⟨o + t.val, by omega⟩ i) := by
  show x _ = x _
  congr 1
  funext a
  match a with
  | ⟨0, _⟩ => exact Fin.ext (by simp [LoadRect.idx])
  | ⟨1, _⟩ => exact Fin.ext (by simp [LoadRect.idx])

/-- An element of a chunk of queries. -/
theorem projQ_apply (x : Vec Ideal S2048x2048 .f32) (w : Vec Ideal S256x2048 .f32) (t : Fin 2048) (d : Fin 256) :
    projQ (F := Ideal) x w (ix2 t d) = (∑ i : Fin 2048, x (ix2 t i) * w (ix2 d i)) * ((Softmax.scale : ℝ) : EReal) := by
  unfold projQ
  refine halves_apply _ _ (fun t d => (∑ i : Fin 2048, x (ix2 t i) * w (ix2 d i)) * ((Softmax.scale : ℝ) : EReal)) ?_ ?_ t d
  · intro t d
    rw [pay11_apply]
    congr 1
    refine Finset.sum_congr rfl fun i _ => ?_
    exact congrArg (· * w (ix2 d i)) (ld_rows x 1024 _ (by omega) t i)
  · intro t d
    rw [pay11_apply]
    congr 1
    refine Finset.sum_congr rfl fun i _ => ?_
    exact congrArg (· * w (ix2 d i)) ((ld_rows x 0 _ (by omega) t i).trans (congrArg (fun r => x (ix2 r i)) (Fin.ext (Nat.zero_add _))))

/-- An element of a chunk of keys or of values. -/
theorem projKV_apply (x : Vec Ideal S2048x2048 .f32) (w : Vec Ideal S256x2048 .f32) (t : Fin 2048) (d : Fin 256) :
    projKV (F := Ideal) x w (ix2 t d) = ∑ i : Fin 2048, x (ix2 t i) * w (ix2 d i) := by
  unfold projKV
  refine halves_apply _ _ (fun t d => ∑ i : Fin 2048, x (ix2 t i) * w (ix2 d i)) ?_ ?_ t d
  · intro t d
    rw [pay12_apply]
    refine Finset.sum_congr rfl fun i _ => ?_
    exact congrArg (· * w (ix2 d i)) (ld_rows x 1024 _ (by omega) t i)
  · intro t d
    rw [pay12_apply]
    refine Finset.sum_congr rfl fun i _ => ?_
    exact congrArg (· * w (ix2 d i)) ((ld_rows x 0 _ (by omega) t i).trans (congrArg (fun r => x (ix2 r i)) (Fin.ext (Nat.zero_add _))))

/-- An element of a block of the output's columns. -/
theorem pay6_apply (w : Vec Ideal S256x2048 .f32) (a : Vec Ideal S2048x2048 .bf16) (t : Fin 2048) (e : Fin 256) :
    k0_pay6 (F := Ideal) w a (ix2 t e) = ∑ k : Fin 2048, a (ix2 t k) * w (ix2 e k) := by
  pointwise [k0_pay6]

end Cert.KernelIdeal.Hand
-- ==== Proof.Attention.lean ====
module

public import proofs.«01_k».proof.Proof.Softmax
public import Idealize.ShloMosaic.Lib.Pointwise

@[expose] public section

noncomputable section

/-! Block-local attention over the extended reals, at coordinates: what both programs compute. -/

namespace Cert.Attention

open Idealize.ShloMosaic

/-- The shape of the rows, with their leading axis, and of a matrix of weights. -/
abbrev Rows : Shape := ⟨3, ![1, 2048, 2048]⟩
abbrev Mat : Shape := ⟨2, ![2048, 2048]⟩

/-- Position `r` of block (or head) `n`. -/
def pos (n : Fin 16) (r : Fin 128) : Fin 2048 := ⟨n.val * 128 + r.val, by omega⟩

/-- The block (or head) of a position, and the place in it. -/
def blockOf (t : Fin 2048) : Fin 16 := ⟨t.val / 128, by omega⟩
def placeOf (t : Fin 2048) : Fin 128 := ⟨t.val % 128, by omega⟩

theorem pos_blockOf (t : Fin 2048) : pos (blockOf t) (placeOf t) = t :=
  Fin.ext (by show t.val / 128 * 128 + t.val % 128 = t.val; omega)

/-- The projection of row `t` of `x` on row `d` of a matrix of weights. -/
def proj (x : Rows.Idx → EReal) (w : Mat.Idx → EReal) (t d : Fin 2048) : EReal :=
  ∑ i : Fin 2048, x (ix3 0 t i) * w (ix2 d i)

/-- The score of query `r` and key `s` of block `n` and head `h`. -/
def score (x : Rows.Idx → EReal) (wq wk : Mat.Idx → EReal) (n h : Fin 16) (r s : Fin 128) : EReal :=
  ∑ d : Fin 128, proj x wq (pos n r) (pos h d) * proj x wk (pos n s) (pos h d)

/-- A score over the root of 128. -/
def scaled (s : EReal) : EReal := Ideal.div s ((Real.sqrt 128 : ℝ) : EReal)

/-- The greatest scaled score. -/
def top (S : Fin 128 → EReal) : EReal := max ⊥ ((Finset.univ : Finset (Fin 128)).fold max ⊥ fun s => scaled (S s))

/-- The softmax weight of key `s` among scores `S`. -/
def weight (S : Fin 128 → EReal) (s : Fin 128) : EReal :=
  Ideal.div (Ideal.exp (scaled (S s) - top S)) (∑ s', Ideal.exp (scaled (S s') - top S))

/-- The attention of row `t` and column `e`. -/
def attn (x : Rows.Idx → EReal) (wq wk wv : Mat.Idx → EReal) (t e : Fin 2048) : EReal :=
  ∑ s : Fin 128, proj x wv (pos (blockOf t) s) e * weight (score x wq wk (blockOf t) (blockOf e) (placeOf t)) s

/-- The output at row `t` and column `e`. -/
def out (x : Rows.Idx → EReal) (wq wk wv wo : Mat.Idx → EReal) (t e : Fin 2048) : EReal :=
  ∑ k : Fin 2048, attn x wq wk wv t k * wo (ix2 e k)

/-- Every score is at most 674, and every query has a score that is no negative infinity. -/
def InRange (x : Rows.Idx → EReal) (wq wk : Mat.Idx → EReal) : Prop :=
  ∀ n h r, (∀ s, score x wq wk n h r s ≤ ((674 : ℝ) : EReal)) ∧ ∃ s, score x wq wk n h r s ≠ ⊥

end Cert.Attention
-- ==== Proof.KernelIdealValue.lean ====
module

public import proofs.«01_k».proof.Proof.KernelIdealTiles
public import proofs.«01_k».proof.Proof.Attention
public import Idealize.ShloMosaic.Lib.Claim
public import Idealize.ShloMosaic.Lib.Pipeline.ValueKit.Point

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Attention (proj score attn out pos blockOf placeOf InRange)

variable (m : (ℓ : Loc nD τ sig) → Buf (Elt Ideal) ℓ)

/-! ## The blocks at coordinates -/

/-- Every window's block at a point. -/
theorem idx : ∀ t : Fin cfg0.N, win0_0.index t = ![0, 0] ∧ win0_1.index t = ![min t.val 7, 0] ∧ win0_2.index t = ![min t.val 7, 0]
    ∧ win0_3.index t = ![min t.val 7, 0] ∧ win0_4.index t = ![min (t.val - 9) 7, 0] ∧ win0_5.index t = ![0, min (t.val - 9) 7] :=
  (by decide +kernel : ∀ t : Fin grid0.N, _)

/-- The rows of `x` without the leading axis. -/
theorem drop_apply (x : FVec Ideal S1x2048x2048 .f32) (a i : Fin 2048) :
    shapeCast S2048x2048 x shapeCasts_S1x2048x2048_S2048x2048 (ix2 a i) = x (ix3 0 a i) := by
  pointwise

/-- An array with a leading axis of size one. -/
theorem lift_apply (x : FVec Ideal S2048x2048 .f32) (a i : Fin 2048) :
    shapeCast S1x2048x2048 x shapeCasts_S2048x2048_S1x2048x2048 (ix3 0 a i) = x (ix2 a i) := by
  pointwise

/-- The rows of `x`. -/
theorem iblk0_apply (c : Dev nD) (t : Fin cfg0.N) (a i : Fin 2048) :
    iblk m c 0 t (ix2 a i) = m ((c.tc : Thread nD τ).loc main_arg0) (ix3 0 a i) := by
  have h : V m c main_v0 = shapeCast S2048x2048 (m ((c.tc : Thread nD τ).loc main_arg0)) shapeCasts_S1x2048x2048_S2048x2048 := by
    entry_read; rfl
  have e : iblk m c 0 t (ix2 a i) = (V m c main_v0) (ix2 a i) := by blk_ext [iblk, idx t]
  rw [e, h]
  exact drop_apply _ a i

/-- The block of the queries' weights. -/
theorem iblk1_apply (c : Dev nD) (t : Fin cfg0.N) (d : Fin 256) (i : Fin 2048) :
    iblk m c 1 t (ix2 d i) = m ((c.tc : Thread nD τ).loc main_arg1) (ix2 ⟨min t.val 7 * 256 + d.val, by omega⟩ i) := by
  blk_ext! [iblk, V, idx t]

/-- The block of the keys' weights. -/
theorem iblk2_apply (c : Dev nD) (t : Fin cfg0.N) (d : Fin 256) (i : Fin 2048) :
    iblk m c 2 t (ix2 d i) = m ((c.tc : Thread nD τ).loc main_arg2) (ix2 ⟨min t.val 7 * 256 + d.val, by omega⟩ i) := by
  blk_ext! [iblk, V, idx t]

/-- The block of the values' weights. -/
theorem iblk3_apply (c : Dev nD) (t : Fin cfg0.N) (d : Fin 256) (i : Fin 2048) :
    iblk m c 3 t (ix2 d i) = m ((c.tc : Thread nD τ).loc main_arg3) (ix2 ⟨min t.val 7 * 256 + d.val, by omega⟩ i) := by
  blk_ext! [iblk, V, idx t]

/-- The block of the output's weights. -/
theorem iblk4_apply (c : Dev nD) (t : Fin cfg0.N) (d : Fin 256) (i : Fin 2048) :
    iblk m c 4 t (ix2 d i) = m ((c.tc : Thread nD τ).loc main_arg4) (ix2 ⟨min (t.val - 9) 7 * 256 + d.val, by omega⟩ i) := by
  blk_ext! [iblk, V, idx t]

/-! ## The result array -/

/-- The output of the attention, over the extended reals. -/
def outOf (c : Dev nD) : S2048x2048.Idx → EReal := fun y =>
  ∑ k : Fin 2048, (attnAll m c (ix2 (y 0) k) : EReal) * (m ((c.tc : Thread nD τ).loc main_arg4) (ix2 (y 1) k) : EReal)

/-- A block of the output's columns holds the output. -/
theorem pay6_out (c : Dev nD) (t : Fin cfg0.N) (a : Fin 2048) (e : Fin 256) (j : S2048x2048.Idx) (h0 : (j 0).val = a.val)
    (h1 : (j 1).val = min (t.val - 9) 7 * 256 + e.val) :
    k0_pay6 (F := Ideal) (iblk m c 4 t) (attnAll m c) (ix2 a e) = outOf m c j := by
  rw [pay6_apply]
  unfold outOf
  refine Finset.sum_congr rfl fun k _ => ?_
  rw [iblk4_apply]
  have e0 : a = j 0 := Fin.ext h0.symm
  have e1 : (⟨min (t.val - 9) 7 * 256 + e.val, by omega⟩ : Fin 2048) = j 1 := Fin.ext h1.symm
  rw [e0, e1]

/-- The kernel's result array. -/
theorem final_out (c : Dev nD) : (dats m 0 c).arrAt 5 cfg0.N = outOf m c := by
  refine (dats m 0 c).arrAt_eq_of_covers 5 _ (by decide +kernel) fun t hf y => ?_
  blk_simp
  rw [after0_5]
  idx_vars y
  refine pay6_out m c t y0 y1 _ ?_ ?_
  · blk_simp [idx t]; try omega
  · blk_simp [idx t]; try omega

/-- The result buffer after the last host line: the result array with its leading axis. -/
theorem tail_out (c : Dev nD) : Pipeline.afterTail₀ cfgs (dats m) 0 (V0 m) [hostOps1] c main_v2
    = shapeCast S1x2048x2048 ((dats m 0 c).arrAt 5 cfg0.N) shapeCasts_S2048x2048_S1x2048x2048 := by
  unfold Pipeline.afterTail₀
  show StableHlo.after hostOps1 _ _ = _
  unfold hostOps1
  after_results
  have e : Pipeline.withArrays (cfgs 0).spec c (V0 m c) (fun w => (dats m 0 c).arrAt w (cfgs 0).N) (Proc.devRef .tc main_v1)
      = (dats m 0 c).arrAt 5 cfg0.N :=
    Pipeline.withArrays_arr spec0 launch0.win.arr_inj c (V0 m c) (fun w => (dats m 0 c).arrAt w (cfgs 0).N) 5
  rw [e]
  rfl

/-! ## The attention at an index -/

/-- The arguments at a device. -/
abbrev argX (c : Dev nD) : FVec Ideal S1x2048x2048 .f32 := m ((c.tc : Thread nD τ).loc main_arg0)
abbrev argQ (c : Dev nD) : FVec Ideal S2048x2048 .f32 := m ((c.tc : Thread nD τ).loc main_arg1)
abbrev argK (c : Dev nD) : FVec Ideal S2048x2048 .f32 := m ((c.tc : Thread nD τ).loc main_arg2)
abbrev argV (c : Dev nD) : FVec Ideal S2048x2048 .f32 := m ((c.tc : Thread nD τ).loc main_arg3)
abbrev argO (c : Dev nD) : FVec Ideal S2048x2048 .f32 := m ((c.tc : Thread nD τ).loc main_arg4)

theorem qAt_apply (c : Dev nD) (s : Fin cfg0.N) (t : Fin 2048) (d : Fin 256) (d' : Fin 2048) (hd : d'.val = min s.val 7 * 256 + d.val) :
    qAt m c s (ix2 t d) = proj (argX m c) (argQ m c) t d' * ((Softmax.scale : ℝ) : EReal) := by
  unfold qAt proj
  rw [projQ_apply]
  refine congrArg (· * ((Softmax.scale : ℝ) : EReal)) (Finset.sum_congr rfl fun i _ => ?_)
  rw [iblk0_apply, iblk1_apply, show (⟨min s.val 7 * 256 + d.val, by omega⟩ : Fin 2048) = d' from Fin.ext hd.symm]

theorem kAt_apply (c : Dev nD) (s : Fin cfg0.N) (t : Fin 2048) (d : Fin 256) (d' : Fin 2048) (hd : d'.val = min s.val 7 * 256 + d.val) :
    kAt m c s (ix2 t d) = proj (argX m c) (argK m c) t d' := by
  unfold kAt proj
  rw [projKV_apply]
  refine Finset.sum_congr rfl fun i _ => ?_
  rw [iblk0_apply, iblk2_apply, show (⟨min s.val 7 * 256 + d.val, by omega⟩ : Fin 2048) = d' from Fin.ext hd.symm]

theorem vAt_apply (c : Dev nD) (s : Fin cfg0.N) (t : Fin 2048) (d : Fin 256) (d' : Fin 2048) (hd : d'.val = min s.val 7 * 256 + d.val) :
    vAt m c s (ix2 t d) = proj (argX m c) (argV m c) t d' := by
  unfold vAt proj
  rw [projKV_apply]
  refine Finset.sum_congr rfl fun i _ => ?_
  rw [iblk0_apply, iblk3_apply, show (⟨min s.val 7 * 256 + d.val, by omega⟩ : Fin 2048) = d' from Fin.ext hd.symm]

/-- The kernel's attention of row `t` and column `e` is the softmax's. -/
theorem attnAll_apply (c : Dev nD) (hr : InRange (argX m c) (argQ m c) (argK m c)) (t e : Fin 2048) :
    attnAll m c (ix2 t e) = attn (argX m c) (argQ m c) (argK m c) (argV m c) t e := by
  have ht := t.isLt
  have he := e.isLt
  have hc : (chunkPt (ix2 t e)).val = e.val / 256 := rfl
  show attendBlk ⟨t.val / 256, by omega⟩ ⟨e.val % 256 / 128, by omega⟩ (qAt m c (chunkPt (ix2 t e))) (kAt m c (chunkPt (ix2 t e))) (vAt m c (chunkPt (ix2 t e)))
    (ix2 ⟨t.val % 256, by omega⟩ ⟨e.val % 256 % 128, by omega⟩) = _
  rw [attendBlk_apply]
  refine Softmax.masked_eq _ _ ⟨t.val % 256, by omega⟩ (score (argX m c) (argQ m c) (argK m c) (blockOf t) (blockOf e) (placeOf t))
    (fun s => proj (argX m c) (argV m c) (pos (blockOf t) s) e) ?_ ?_ (hr _ _ _).1 (hr _ _ _).2 _ rfl
  · intro s
    have hs := s.isLt
    unfold score
    rw [← Softmax.score_scaled]
    refine Finset.sum_congr rfl fun d _ => ?_
    have hd := d.isLt
    rw [qAt_apply m c _ _ _ (pos (blockOf e) d) (by rw [hc]; show e.val / 128 * 128 + d.val = min (e.val / 256) 7 * 256 + (128 * (e.val % 256 / 128) + d.val); omega),
      kAt_apply m c _ _ _ (pos (blockOf e) d) (by rw [hc]; show e.val / 128 * 128 + d.val = min (e.val / 256) 7 * 256 + (128 * (e.val % 256 / 128) + d.val); omega)]
    have e1 : (⟨256 * (t.val / 256) + t.val % 256, by omega⟩ : Fin 2048) = pos (blockOf t) (placeOf t) :=
      Fin.ext (by show 256 * (t.val / 256) + t.val % 256 = t.val / 128 * 128 + t.val % 128; omega)
    have e2 : (⟨256 * (t.val / 256) + (128 * (t.val % 256 / 128) + s.val), by omega⟩ : Fin 2048) = pos (blockOf t) s :=
      Fin.ext (by show 256 * (t.val / 256) + (128 * (t.val % 256 / 128) + s.val) = t.val / 128 * 128 + s.val; omega)
    exact congr (congrArg HMul.hMul (congrArg (fun a => proj (argX m c) (argQ m c) a (pos (blockOf e) d) * ((Softmax.scale : ℝ) : EReal)) e1))
      (congrArg (fun a => proj (argX m c) (argK m c) a (pos (blockOf e) d)) e2)
  · intro s
    have hs := s.isLt
    rw [vAt_apply m c _ _ _ e (by rw [hc]; show e.val = min (e.val / 256) 7 * 256 + (128 * (e.val % 256 / 128) + e.val % 256 % 128); omega)]
    refine congrArg (fun a => proj (argX m c) (argV m c) a e) ?_
    exact Fin.ext (by show 256 * (t.val / 256) + (128 * (t.val % 256 / 128) + s.val) = t.val / 128 * 128 + s.val; omega)

/-- The kernel's result buffer, at row `t` and column `e`. -/
theorem result_apply (c : Dev nD) (hr : InRange (argX m c) (argQ m c) (argK m c)) (t e : Fin 2048) :
    (Pipeline.afterTail₀ cfgs (dats m) 0 (V0 m) [hostOps1] c main_v2 : FVec Ideal S1x2048x2048 .f32) (ix3 0 t e)
      = out (argX m c) (argQ m c) (argK m c) (argV m c) (argO m c) t e := by
  rw [tail_out, final_out]
  refine (lift_apply (outOf m c) t e).trans ?_
  unfold outOf out
  refine Finset.sum_congr rfl fun k _ => ?_
  exact congrArg (· * _) (attnAll_apply m c hr t k)

end Cert.KernelIdeal.Hand
-- ==== Proof.ReferenceValue.lean ====
module

public import proofs.«01_k».proof.Proof.Gen.ReferenceIdeal.Run
public import proofs.«01_k».proof.Proof.Attention
public import Idealize.ShloMosaic.Lib.Pointwise

@[expose] public section
set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.Attention (proj score attn out pos blockOf placeOf InRange scaled top weight)

/-! ## The reference in stages -/

/-- The projection of the rows of `x` by a matrix of weights, split in blocks and heads. -/
def heads (x : FVec Ideal S1x2048x2048 .f32) (w : FVec Ideal S2048x2048 .f32) : FVec Ideal S1x16x128x16x128 .f32 :=
  shapeCast S1x16x128x16x128 (Host.dotGeneral dot_S1x2048x2048_S2048x2048_S1x2048x2048_2_0_01_1_n_n none x
    (transpose S2048x2048 [1, 0] w transposes_S2048x2048_S2048x2048_1_0)) shapeCasts_S1x2048x2048_S1x16x128x16x128

/-- The scores, over the root of 128. -/
def scores (q k : FVec Ideal S1x16x128x16x128 .f32) : FVec Ideal S1x16x16x128x128 .f32 :=
  Host.divf (Host.dotGeneral dot_S1x16x128x16x128_S1x16x128x16x128_S1x16x16x128x128_4_4_2_2_013_013 none q k)
    (broadcastInDim S1x16x16x128x128 ![] bcast_S_S1x16x16x128x128 (Host.sqrt (constant S_ .f32 0x43000000#32)))

/-- The greatest score of each query. -/
def greatest (s : FVec Ideal S1x16x16x128x128 .f32) : FVec Ideal S1x16x16x128 .f32 :=
  maximumf (broadcastInDim S1x16x16x128 ![] bcast_S_S1x16x16x128 (constant S_ .f32 0xFF800000#32))
    (Host.reduce FloatOps.maximumf s (constant S_ .f32 0xFF800000#32) reducesTo_S1x16x16x128x128_S1x16x16x128_d4 h_S_)

/-- A value of each query, repeated over its keys. -/
def perKey (g : FVec Ideal S1x16x16x128 .f32) : FVec Ideal S1x16x16x128x128 .f32 :=
  broadcastInDim S1x16x16x128x128 ![0, 1, 2, 3, 4] bcast_S1x16x16x128x1_S1x16x16x128x128_0_1_2_3_4
    (broadcastInDim S1x16x16x128x1 ![0, 1, 2, 3] bcast_S1x16x16x128_S1x16x16x128x1_0_1_2_3 g)

/-- The exponentials of the scores less the greatest. -/
def expos (s : FVec Ideal S1x16x16x128x128 .f32) : FVec Ideal S1x16x16x128x128 .f32 :=
  Host.exp (subf s (perKey (greatest s)))

/-- The exponentials over their sum. -/
def softmax (p : FVec Ideal S1x16x16x128x128 .f32) : FVec Ideal S1x16x16x128x128 .f32 :=
  Host.divf p (perKey (Host.reduceAdd p (constant S_ .f32 0x00000000#32) reducesTo_S1x16x16x128x128_S1x16x16x128_d4 h_S_))

/-- The values mixed by the weights, the heads put side by side again. -/
def mixed (v : FVec Ideal S1x16x128x16x128 .f32) (p : FVec Ideal S1x16x16x128x128 .f32) : FVec Ideal S1x2048x2048 .f32 :=
  shapeCast S1x2048x2048 (transpose S1x16x128x16x128 [0, 1, 4, 2, 3]
    (Host.dotGeneral dot_S1x16x128x16x128_S1x16x16x128x128_S1x16x16x128x128_2_4_4_3_013_012 none v p)
    transposes_S1x16x16x128x128_S1x16x128x16x128_0_1_4_2_3) shapeCasts_S1x16x128x16x128_S1x2048x2048

/-- The projection of the mixed values. -/
def output (a : FVec Ideal S1x2048x2048 .f32) (w : FVec Ideal S2048x2048 .f32) : FVec Ideal S1x2048x2048 .f32 :=
  Host.dotGeneral dot_S1x2048x2048_S2048x2048_S1x2048x2048_2_0_01_1_n_n none a
    (transpose S2048x2048 [1, 0] w transposes_S2048x2048_S2048x2048_1_0)

/-- The reference of its five arguments. -/
def ref (x : FVec Ideal S1x2048x2048 .f32) (wq wk wv wo : FVec Ideal S2048x2048 .f32) : FVec Ideal S1x2048x2048 .f32 :=
  output (mixed (heads x wv) (softmax (expos (scores (heads x wq) (heads x wk))))) wo

/-- The reference's composed term is the stages. -/
theorem res_eq (m : (ℓ : Loc nD τ sig) → Buf (Elt Ideal) ℓ) (c : Dev nD) :
    Value.res_main_v28 m c = ref (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The stages at an index, over the extended reals -/

/-- The pattern of 128. -/
theorem ofBits_128 : Ideal.ofBits .f32 0x43000000#32 = ((128 : ℝ) : EReal) := by
  simp [Ideal.ofBits, Ideal.ieee, -EReal.coe_mul]; norm_num

/-- The pattern of negative infinity. -/
theorem ofBits_bot : Ideal.ofBits .f32 0xFF800000#32 = (⊥ : EReal) := by
  simp [Ideal.ofBits, Ideal.ieee]

/-- A one-operand reduction over the last of five axes is a fold along it. -/
theorem reduce_last {α : Type} (f : α → α → α) [Std.Commutative f] [Std.Associative f] (a b c d e : Nat) {t u : Shape}
    (h : (⟨5, ![a, b, c, d, e]⟩ : Shape).ReducesTo [4] t) (hu : 0 < u.numel)
    (x : (⟨5, ![a, b, c, d, e]⟩ : Shape).Idx → α) (init : u.Idx → α) (j : t.Idx) :
    Host.reduce f x init h hu j = (Finset.univ : Finset (Fin e)).fold f (init (Shape.Idx.first hu)) fun s =>
      x (ix5 ⟨(j ⟨0, h.lt_r5_a4_0⟩).val, Shape.coordLt (j ⟨0, h.lt_r5_a4_0⟩) h.size_r5_a4_0⟩
        ⟨(j ⟨1, h.lt_r5_a4_1⟩).val, Shape.coordLt (j ⟨1, h.lt_r5_a4_1⟩) h.size_r5_a4_1⟩
        ⟨(j ⟨2, h.lt_r5_a4_2⟩).val, Shape.coordLt (j ⟨2, h.lt_r5_a4_2⟩) h.size_r5_a4_2⟩
        ⟨(j ⟨3, h.lt_r5_a4_3⟩).val, Shape.coordLt (j ⟨3, h.lt_r5_a4_3⟩) h.size_r5_a4_3⟩ s) :=
  (Host.reduce_eq_fold f x init h hu j).trans (h.fold_fiber_r5_a4 j f _ x)

/-- The greatest over the last axis, from negative infinity. -/
theorem reduce_max (x : (⟨5, ![1, 16, 16, 128, 128]⟩ : Shape).Idx → EReal)
    (hs : (⟨5, ![1, 16, 16, 128, 128]⟩ : Shape).ReducesTo [4] ⟨4, ![1, 16, 16, 128]⟩) (hu : 0 < (⟨0, ![]⟩ : Shape).numel) (n h : Fin 16) (r : Fin 128) :
    Host.reduce (FloatOps.maximumf (F := Ideal) (φ := .f32)) x (constant (F := Ideal) ⟨0, ![]⟩ .f32 0xFF800000#32) hs hu (ix4 0 n h r)
      = (Finset.univ : Finset (Fin 128)).fold max (⊥ : EReal) fun s => x (ix5 0 n h r s) := by
  rw [← ofBits_bot]
  exact reduce_last (FloatOps.maximumf (F := Ideal) (φ := .f32)) 1 16 16 128 128 hs hu x (constant (F := Ideal) ⟨0, ![]⟩ .f32 0xFF800000#32) (ix4 0 n h r)

theorem heads_apply (x : FVec Ideal S1x2048x2048 .f32) (w : FVec Ideal S2048x2048 .f32) (n : Fin 16) (r : Fin 128) (h : Fin 16) (d : Fin 128) :
    heads x w (ix5 0 n r h d) = proj x w (pos n r) (pos h d) := by
  pointwise [heads]
  rfl

theorem scores_apply (q k : FVec Ideal S1x16x128x16x128 .f32) (n h : Fin 16) (r s : Fin 128) :
    scores q k (ix5 0 n h r s) = scaled (∑ d : Fin 128, q (ix5 0 n r h d) * k (ix5 0 n s h d)) := by
  have h128 : Ideal.sqrt (Ideal.ofBits .f32 0x43000000#32) = ((Real.sqrt 128 : ℝ) : EReal) := by
    rw [ofBits_128, Ideal.sqrt_coe, if_neg (by norm_num)]
  pointwise [scores]
  rw [h128]
  rfl

/-- The greater of two arrays, at an index. -/
theorem max_apply {s : Shape} (a b : FVec Ideal s .f32) (i : s.Idx) : maximumf a b i = (max (a i) (b i) : EReal) := rfl

theorem greatest_apply (s : FVec Ideal S1x16x16x128x128 .f32) (n h : Fin 16) (r : Fin 128) :
    greatest s (ix4 0 n h r) = max ⊥ ((Finset.univ : Finset (Fin 128)).fold max (⊥ : EReal) fun k => s (ix5 0 n h r k)) := by
  have h1 := reduce_max s reducesTo_S1x16x16x128x128_S1x16x16x128_d4 h_S_ n h r
  unfold greatest
  rw [max_apply]
  refine congr (congrArg max ?_) h1
  rw [← ofBits_bot]
  rfl

theorem perKey_apply (g : FVec Ideal S1x16x16x128 .f32) (n h : Fin 16) (r k : Fin 128) :
    perKey g (ix5 0 n h r k) = g (ix4 0 n h r) := by
  pointwise [perKey]

theorem expos_apply (s : FVec Ideal S1x16x16x128x128 .f32) (n h : Fin 16) (r k : Fin 128) :
    expos s (ix5 0 n h r k) = Ideal.exp (s (ix5 0 n h r k) - max ⊥ ((Finset.univ : Finset (Fin 128)).fold max (⊥ : EReal) fun k => s (ix5 0 n h r k))) := by
  rw [← greatest_apply, ← perKey_apply (greatest s) n h r k]
  pointwise [expos]

theorem sum_apply (p : FVec Ideal S1x16x16x128x128 .f32) (n h : Fin 16) (r : Fin 128) :
    Host.reduceAdd p (constant S_ .f32 0x00000000#32) reducesTo_S1x16x16x128x128_S1x16x16x128_d4 h_S_ (ix4 0 n h r)
      = ∑ k : Fin 128, p (ix5 0 n h r k) := by
  pointwise

theorem softmax_apply (p : FVec Ideal S1x16x16x128x128 .f32) (n h : Fin 16) (r k : Fin 128) :
    softmax p (ix5 0 n h r k) = Ideal.div (p (ix5 0 n h r k)) (∑ k : Fin 128, p (ix5 0 n h r k)) := by
  rw [← sum_apply, ← perKey_apply (Host.reduceAdd p _ _ _) n h r k]
  pointwise [softmax]

theorem mixed_apply (v : FVec Ideal S1x16x128x16x128 .f32) (p : FVec Ideal S1x16x16x128x128 .f32) (t e : Fin 2048) :
    mixed v p (ix3 0 t e) = ∑ s : Fin 128, v (ix5 0 (blockOf t) s (blockOf e) (placeOf e)) * p (ix5 0 (blockOf t) (blockOf e) (placeOf t) s) := by
  pointwise [mixed]
  rfl

theorem output_apply (a : FVec Ideal S1x2048x2048 .f32) (w : FVec Ideal S2048x2048 .f32) (t e : Fin 2048) :
    output a w (ix3 0 t e) = ∑ k : Fin 2048, a (ix3 0 t k) * w (ix2 e k) := by
  pointwise [output]

/-- The reference at row `t` and column `e`. -/
theorem ref_apply (x : FVec Ideal S1x2048x2048 .f32) (wq wk wv wo : FVec Ideal S2048x2048 .f32) (t e : Fin 2048) :
    ref x wq wk wv wo (ix3 0 t e) = out x wq wk wv wo t e := by
  unfold ref out
  rw [output_apply]
  refine Finset.sum_congr rfl fun k _ => congrArg (· * wo (ix2 e k)) ?_
  rw [mixed_apply]
  unfold attn
  refine Finset.sum_congr rfl fun s _ => ?_
  have hS : ∀ s, scores (heads x wq) (heads x wk) (ix5 0 (blockOf t) (blockOf k) (placeOf t) s) = scaled (score x wq wk (blockOf t) (blockOf k) (placeOf t) s) := by
    intro s
    rw [scores_apply]
    unfold score
    simp only [heads_apply]
  rw [heads_apply, Cert.Attention.pos_blockOf, softmax_apply]
  simp only [expos_apply, hS]
  rfl

end Cert.ReferenceIdeal.Hand
-- ==== Proof.Range.lean ====
module

public import proofs.«01_k».proof.Proof.ReferenceValue
public import proofs.«01_k».proof.Pre_greatest_scores_in_range

@[expose] public section

set_option maxRecDepth 16384

noncomputable section

namespace Cert.Pre_greatest_scores_in_range.Hand

open Cert.Pre_greatest_scores_in_range
open Idealize.ShloMosaic Idealize.ShloMosaic.TcCoe Idealize.ShloMosaic.Tactic
open Cert.Attention (proj score pos InRange)

variable [Facts]
open Facts

/-- The pattern of 674. -/
theorem ofBits_674 : Ideal.ofBits .f32 0x44288000#32 = ((674 : ℝ) : EReal) := by
  simp [Ideal.ofBits, Ideal.ieee, -EReal.coe_mul]; norm_num

/-- The projections, split in blocks and heads. -/
def heads (x : FVec Ideal S1x2048x2048 .f32) (w : FVec Ideal S2048x2048 .f32) : FVec Ideal S1x16x128x16x128 .f32 :=
  shapeCast S1x16x128x16x128 (Host.dotGeneral dot_S1x2048x2048_S2048x2048_S1x2048x2048_2_0_01_1_n_n none x
    (transpose S2048x2048 [1, 0] w transposes_S2048x2048_S2048x2048_1_0)) shapeCasts_S1x2048x2048_S1x16x128x16x128

/-- The scores. -/
def scores (q k : FVec Ideal S1x16x128x16x128 .f32) : FVec Ideal S1x16x16x128x128 .f32 :=
  Host.dotGeneral dot_S1x16x128x16x128_S1x16x128x16x128_S1x16x16x128x128_4_4_2_2_013_013 none q k

/-- The greatest score of each query. -/
def greatest (s : FVec Ideal S1x16x16x128x128 .f32) : FVec Ideal S1x16x16x128 .f32 :=
  Host.reduce FloatOps.maximumf s (constant S_ .f32 0xFF800000#32) reducesTo_S1x16x16x128x128_S1x16x16x128_d4 h_S_

/-- The comparisons with the two bounds. -/
def within (g : FVec Ideal S1x16x16x128 .f32) : IVec S1x16x16x128 1 :=
  andi (cmpf .ole g (broadcastInDim S1x16x16x128 ![] bcast_S_S1x16x16x128 (constant S_ .f32 0x44288000#32)))
    (cmpf .ogt g (broadcastInDim S1x16x16x128 ![] bcast_S_S1x16x16x128 (constant S_ .f32 0xFF800000#32)))

/-- The printed precondition is those stages. -/
theorem fn_eq (x : FVec Ideal S1x2048x2048 .f32) (wq wk wv wo : FVec Ideal S2048x2048 .f32) :
    fn x wq wk wv wo = within (greatest (scores (heads x wq) (heads x wk))) := rfl

theorem heads_apply (x : FVec Ideal S1x2048x2048 .f32) (w : FVec Ideal S2048x2048 .f32) (n : Fin 16) (r : Fin 128) (h : Fin 16) (d : Fin 128) :
    heads x w (ix5 0 n r h d) = proj x w (pos n r) (pos h d) := by
  pointwise [heads]
  rfl

theorem scores_apply (q k : FVec Ideal S1x16x128x16x128 .f32) (n h : Fin 16) (r s : Fin 128) :
    scores q k (ix5 0 n h r s) = ∑ d : Fin 128, q (ix5 0 n r h d) * k (ix5 0 n s h d) := by
  pointwise [scores]

theorem greatest_apply (s : FVec Ideal S1x16x16x128x128 .f32) (n h : Fin 16) (r : Fin 128) :
    greatest s (ix4 0 n h r) = (Finset.univ : Finset (Fin 128)).fold max (⊥ : EReal) fun k => s (ix5 0 n h r k) :=
  Cert.ReferenceIdeal.Hand.reduce_max s reducesTo_S1x16x16x128x128_S1x16x16x128_d4 h_S_ n h r

theorem within_apply (g : FVec Ideal S1x16x16x128 .f32) (n h : Fin 16) (r : Fin 128) :
    within g (ix4 0 n h r) = IntOp.andi (BitVec.ofBool (decide (g (ix4 0 n h r) ≤ ((674 : ℝ) : EReal)))) (BitVec.ofBool (decide ((⊥ : EReal) < g (ix4 0 n h r)))) := by
  rw [← ofBits_674, ← Cert.ReferenceIdeal.Hand.ofBits_bot]
  pointwise [within]

/-- Both bits of a conjunction that is one. -/
theorem andi_one : ∀ a b : Bool, IntOp.andi (BitVec.ofBool a) (BitVec.ofBool b) = 1#1 → a = true ∧ b = true := by decide

/-- Where the printed precondition holds, the scores are in range. -/
theorem inRange (x : FVec Ideal S1x2048x2048 .f32) (wq wk wv wo : FVec Ideal S2048x2048 .f32)
    (H : ∀ i, fn x wq wk wv wo i = 1#1) : InRange x wq wk := by
  intro n h r
  have H1 := H (ix4 0 n h r)
  rw [fn_eq, within_apply, greatest_apply] at H1
  obtain ⟨h1, h2⟩ := andi_one _ _ H1
  have hS : ∀ s, scores (heads x wq) (heads x wk) (ix5 0 n h r s) = score x wq wk n h r s := by
    intro s
    rw [scores_apply]
    unfold score
    simp only [heads_apply]
  simp only [hS] at h1 h2
  have h1 := of_decide_eq_true h1
  have h2 := of_decide_eq_true h2
  rw [Finset.fold_max_le] at h1
  rw [Finset.lt_fold_max] at h2
  refine ⟨fun s => h1.2 s (Finset.mem_univ s), ?_⟩
  rcases h2 with h2 | ⟨s, -, hs⟩
  · exact absurd h2 (lt_irrefl _)
  · exact ⟨s, hs.ne'⟩

end Cert.Pre_greatest_scores_in_range.Hand
-- ==== Proof.Algebraic.lean ====
module

public import proofs.«01_k».proof.Defs
public import proofs.«01_k».proof.Proof.KernelIdealValue
public import proofs.«01_k».proof.Proof.ReferenceValue
public import proofs.«01_k».proof.Proof.Range
public import proofs.«01_k».proof.Proof.KernelIdealRun

@[expose] public section

set_option maxRecDepth 16384

noncomputable section

/-! The idealized kernel's result buffer is the reference's, where the scores are in range. -/

namespace Cert.Algebraic

open Idealize.ShloMosaic Idealize.ShloMosaic.TcCoe Idealize.SL.Sem Idealize.ShloMosaic.Tactic
open Cert.KernelIdeal.Hand (argX argQ argK argV argO)

variable (m : (ℓ : Loc Cert.KernelIdeal.nD Cert.KernelIdeal.τ Cert.KernelIdeal.sig) → Buf (Elt Ideal) ℓ)

/-- What the kernel leaves in its result buffer. -/
def result (c : Dev Cert.KernelIdeal.nD) : FVec Ideal Cert.KernelIdeal.S1x2048x2048 .f32 :=
  Pipeline.afterTail₀ Cert.KernelIdeal.cfgs (Cert.KernelIdeal.Hand.dats m) 0 (Cert.KernelIdeal.Gen.V0 m) [Cert.KernelIdeal.Gen.hostOps1] c Cert.KernelIdeal.main_v2

/-- It is the reference of the kernel's arguments. -/
theorem ref_eq_result (c : Dev Cert.KernelIdeal.nD) (hr : Cert.Attention.InRange (argX m c) (argQ m c) (argK m c)) :
    Cert.ReferenceIdeal.Hand.ref (argX m c) (argQ m c) (argK m c) (argV m c) (argO m c) = result m c := by
  funext j
  have e : j = ix3 (0 : Fin 1) (j 1 : Fin 2048) (j 2 : Fin 2048) := by
    funext a
    match a with
    | ⟨0, _⟩ => exact Fin.ext (by have := (j 0).isLt; show (j 0).val = 0; exact Nat.lt_one_iff.mp this)
    | ⟨1, _⟩ => rfl
    | ⟨2, _⟩ => rfl
  rw [e]
  exact (Cert.ReferenceIdeal.Hand.ref_apply _ _ _ _ _ (j 1) (j 2)).trans (Cert.KernelIdeal.Hand.result_apply m c hr (j 1) (j 2)).symm

/-- The kernel's run ends with its result buffer at `result` and its arguments unchanged. -/
theorem kernel_run (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v2) = result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono
    (fun r h c => ⟨h.1.rest_eq c Cert.KernelIdeal.main_v2 (by decide), h.2.1 c⟩)
    (θ_run_and (Cert.KernelIdeal.Hand.run_main m ρ) (Cert.KernelIdeal.Hand.frame_main m ρ))

/-- The reference's run, from arguments that agree with the kernel's, ends with its result buffer at `result`. -/
theorem reference_run [Cert.Pre_greatest_scores_in_range.Facts] (hpre : Cert.Pre_KernelIdeal_greatest_scores_in_range m)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = argX m c)
    (h1 : m' ((c.tc : Thread Cert.ReferenceIdeal.nD Cert.ReferenceIdeal.τ).loc Cert.ReferenceIdeal.main_arg1) = argQ m c)
    (h2 : m' ((c.tc : Thread Cert.ReferenceIdeal.nD Cert.ReferenceIdeal.τ).loc Cert.ReferenceIdeal.main_arg2) = argK m c)
    (h3 : m' ((c.tc : Thread Cert.ReferenceIdeal.nD Cert.ReferenceIdeal.τ).loc Cert.ReferenceIdeal.main_arg3) = argV m c)
    (h4 : m' ((c.tc : Thread Cert.ReferenceIdeal.nD Cert.ReferenceIdeal.τ).loc Cert.ReferenceIdeal.main_arg4) = argO m c) :
    Cert.ReferenceIdeal.Value.res_main_v28 m' c = result m c := by
  rw [Cert.ReferenceIdeal.Hand.res_eq, h0, h1, h2, h3, h4]
  exact ref_eq_result m c (Cert.Pre_greatest_scores_in_range.Hand.inRange _ _ _ _ _ fun i => congrFun (hpre c) i)

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_greatest_scores_in_range
public import proofs.«01_k».proof.Proof.Algebraic
public import proofs.«01_k».proof.Proof.KernelRun
public import proofs.«01_k».proof.Proof.KernelIdealRun
public import Idealize.ShloMosaic.Adequacy
public import Idealize.ShloMosaic.Init

@[expose] public section

noncomputable section

namespace Cert.Proof

open Idealize.ShloMosaic Idealize.SL.Sem

/-- The kernel runs, changes no argument and leaves every semaphore at zero. -/
theorem frame_P : Cert.quiescent_Kernel := fun m ρ _ => Cert.Kernel.Hand.frame_main m ρ

/-- The idealized kernel runs, changes no argument and leaves every semaphore at zero. -/
theorem frame_PI : Cert.quiescent_KernelIdeal := fun m ρ _ => Cert.KernelIdeal.Hand.frame_main m ρ

/-- The reference runs, changes no argument and leaves every semaphore at zero. -/
theorem frame_RI : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel's frame, where the scores are in range. -/
theorem frame_PI_pre [Cert.Pre_greatest_scores_in_range.Facts] : Cert.quiescent_KernelIdeal_pre_greatest_scores_in_range :=
  fun m ρ _ => Cert.KernelIdeal.Hand.frame_main m ρ

/-- The reference's frame, where the scores are in range. -/
theorem frame_RI_pre [Cert.Pre_greatest_scores_in_range.Facts] : Cert.quiescent_ReferenceIdeal_pre_greatest_scores_in_range :=
  fun m ρ _ => frame_RI m ρ trivial

/-- The idealized kernel is the kernel with its scaling constant named. -/
theorem preserves : Cert.preserves_Kernel_KernelIdeal :=
  IdealRules.named_const.statement Cert.KernelIdeal.κ "log2e_inv_sqrt_d" .f32 0x3E0293EE#32 (((Real.sqrt 128)⁻¹ * (Real.log 2)⁻¹ : ℝ) : EReal) rfl

/-- From equal arguments whose scores are in range, the idealized kernel and the idealized reference end with equal results. -/
theorem algebraic [Cert.Pre_greatest_scores_in_range.Facts] : Cert.algebraic_KernelIdeal_ReferenceIdeal_pre_greatest_scores_in_range := by
  intro m g m' g' hpre hag
  refine ⟨Cert.Algebraic.result m, Cert.Algebraic.kernel_run m g, ?_⟩
  refine (θ_run Cert.ReferenceIdeal.defs _ _).mono (fun r h c => ⟨(h c).1.trans ?_, (h c).2⟩) (Cert.ReferenceIdeal.Value.run (F := Ideal) m' g')
  obtain ⟨h0, h1, h2, h3, h4⟩ := hag c
  exact Cert.Algebraic.reference_run m hpre m' c h0 h1 h2 h3 h4

/-- All the claims. -/
theorem claim : Cert.Claim := ⟨Cert.Kernel.Gen.facts, Cert.KernelIdeal.Gen.facts, Cert.ReferenceIdeal.Gen.facts,
  Cert.Pre_greatest_scores_in_range.Gen.facts, frame_P, frame_PI, frame_PI_pre, frame_RI, frame_RI_pre, preserves, algebraic⟩

end Cert.Proof

end
